-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_b2_finite [hPre_b2_finite : Cert.Pre_b2_finite.Facts] (m : (ℓ : Loc Cert.KernelIdeal.nD Cert.KernelIdeal.τ Cert.KernelIdeal.sig) → Buf (Elt Ideal) ℓ) : Prop :=
  ∀ c : Dev Cert.KernelIdeal.nD,
    (Cert.Pre_b2_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_b2_finite [hPre_b2_finite : Cert.Pre_b2_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_b2_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_b2_finite [hKernelIdeal : Cert.KernelIdeal.Facts] [hPre_b2_finite : Cert.Pre_b2_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_b2_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_b2_finite [hReferenceIdeal : Cert.ReferenceIdeal.Facts] [hPre_b2_finite : Cert.Pre_b2_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_b2_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_b2_finite [hKernelIdeal : Cert.KernelIdeal.Facts] [hReferenceIdeal : Cert.ReferenceIdeal.Facts] [hPre_b2_finite : Cert.Pre_b2_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_b2_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_b2_finite : Cert.Pre_b2_finite.Facts),
    quiescent_Kernel (hKernel := hKernel)
    ∧ quiescent_KernelIdeal (hKernelIdeal := hKernelIdeal)
    ∧ quiescent_KernelIdeal_pre_b2_finite (hKernelIdeal := hKernelIdeal) (hPre_b2_finite := hPre_b2_finite)
    ∧ quiescent_ReferenceIdeal (hReferenceIdeal := hReferenceIdeal)
    ∧ quiescent_ReferenceIdeal_pre_b2_finite (hReferenceIdeal := hReferenceIdeal) (hPre_b2_finite := hPre_b2_finite)
    ∧ preserves_Kernel_KernelIdeal
    ∧ algebraic_KernelIdeal_ReferenceIdeal_pre_b2_finite (hKernelIdeal := hKernelIdeal) (hReferenceIdeal := hReferenceIdeal) (hPre_b2_finite := hPre_b2_finite)
-- ==== Pre_b2_finite.lean ====
abbrev S2x2048x1024 : Shape := ⟨3, ![2, 2048, 1024]⟩
abbrev S2x2048x64x256 : Shape := ⟨4, ![2, 2048, 64, 256]⟩
abbrev S1024x256 : Shape := ⟨2, ![1024, 256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2x2048x1024 .f32) (main_arg1 : FVec F S2x2048x64x256 .f32) (main_arg2 : FVec F S1024x256 .f32) (main_arg3 : FVec F S256x256 .f32) (main_arg4 : FVec F S256x128 .f32) (main_arg5 : FVec F S128 .f32) (main_arg6 : FVec F S128x1 .f32) (main_arg7 : FVec F S1 .f32) : IVec S1 1 :=
  let main_v0 : FVec F S1 .f32 := Host.absf main_arg7
  let main_cst : FVec F S_ .f32 := constant S_ .f32 0x7F800000#32
  let main_v1 : FVec F S1 .f32 := broadcastInDim S1 ![] bcast_S_S1 main_cst
  let main_v2 : IVec S1 1 := cmpf .olt main_v0 main_v1
  main_v2
-- ==== Kernel.lean ====
abbrev S2x2048x1024 : Shape := ⟨3, ![2, 2048, 1024]⟩
abbrev S2x2048x64x256 : Shape := ⟨4, ![2, 2048, 64, 256]⟩
abbrev S1024x256 : Shape := ⟨2, ![1024, 256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S2x131072x256 : Shape := ⟨3, ![2, 131072, 256]⟩
abbrev S1x128 : Shape := ⟨2, ![1, 128]⟩
abbrev S2x2048x64 : Shape := ⟨3, ![2, 2048, 64]⟩
abbrev S1x128x1024 : Shape := ⟨3, ![1, 128, 1024]⟩
abbrev S1x8192x256 : Shape := ⟨3, ![1, 8192, 256]⟩
abbrev S1x128x64 : Shape := ⟨3, ![1, 128, 64]⟩
abbrev S1x1024 : Shape := ⟨2, ![1, 1024]⟩
abbrev S128x1024 : Shape := ⟨2, ![128, 1024]⟩
abbrev S128x128 : Shape := ⟨2, ![128, 128]⟩
abbrev S128x256 : Shape := ⟨2, ![128, 256]⟩
abbrev S8192x256 : Shape := ⟨2, ![8192, 256]⟩
abbrev S128x64x256 : Shape := ⟨3, ![128, 64, 256]⟩
abbrev S128x1x256 : Shape := ⟨3, ![128, 1, 256]⟩
abbrev S8192x128 : Shape := ⟨2, ![8192, 128]⟩
abbrev S128x64 : Shape := ⟨2, ![128, 64]⟩
abbrev S8192x64 : Shape := ⟨2, ![8192, 64]⟩
abbrev S128x64x64 : Shape := ⟨3, ![128, 64, 64]⟩
abbrev S1x64x64 : Shape := ⟨3, ![1, 64, 64]⟩
abbrev S128x63 : Shape := ⟨2, ![128, 63]⟩
abbrev S128x62 : Shape := ⟨2, ![128, 62]⟩
abbrev S128x2 : Shape := ⟨2, ![128, 2]⟩
abbrev S128x61 : Shape := ⟨2, ![128, 61]⟩
abbrev S128x3 : Shape := ⟨2, ![128, 3]⟩
abbrev S128x60 : Shape := ⟨2, ![128, 60]⟩
abbrev S128x4 : Shape := ⟨2, ![128, 4]⟩
abbrev S128x59 : Shape := ⟨2, ![128, 59]⟩
abbrev S128x5 : Shape := ⟨2, ![128, 5]⟩
abbrev S128x58 : Shape := ⟨2, ![128, 58]⟩
abbrev S128x6 : Shape := ⟨2, ![128, 6]⟩
abbrev S128x57 : Shape := ⟨2, ![128, 57]⟩
abbrev S128x7 : Shape := ⟨2, ![128, 7]⟩
abbrev S128x56 : Shape := ⟨2, ![128, 56]⟩
abbrev S128x8 : Shape := ⟨2, ![128, 8]⟩
abbrev S128x55 : Shape := ⟨2, ![128, 55]⟩
abbrev S128x9 : Shape := ⟨2, ![128, 9]⟩
abbrev S128x54 : Shape := ⟨2, ![128, 54]⟩
abbrev S128x10 : Shape := ⟨2, ![128, 10]⟩
abbrev S128x53 : Shape := ⟨2, ![128, 53]⟩
abbrev S128x11 : Shape := ⟨2, ![128, 11]⟩
abbrev S128x52 : Shape := ⟨2, ![128, 52]⟩
abbrev S128x12 : Shape := ⟨2, ![128, 12]⟩
abbrev S128x51 : Shape := ⟨2, ![128, 51]⟩
abbrev S128x13 : Shape := ⟨2, ![128, 13]⟩
abbrev S128x50 : Shape := ⟨2, ![128, 50]⟩
abbrev S128x14 : Shape := ⟨2, ![128, 14]⟩
abbrev S128x49 : Shape := ⟨2, ![128, 49]⟩
abbrev S128x15 : Shape := ⟨2, ![128, 15]⟩
abbrev S128x48 : Shape := ⟨2, ![128, 48]⟩
abbrev S128x16 : Shape := ⟨2, ![128, 16]⟩
abbrev S128x47 : Shape := ⟨2, ![128, 47]⟩
abbrev S128x17 : Shape := ⟨2, ![128, 17]⟩
abbrev S128x46 : Shape := ⟨2, ![128, 46]⟩
abbrev S128x18 : Shape := ⟨2, ![128, 18]⟩
abbrev S128x45 : Shape := ⟨2, ![128, 45]⟩
abbrev S128x19 : Shape := ⟨2, ![128, 19]⟩
abbrev S128x44 : Shape := ⟨2, ![128, 44]⟩
abbrev S128x20 : Shape := ⟨2, ![128, 20]⟩
abbrev S128x43 : Shape := ⟨2, ![128, 43]⟩
abbrev S128x21 : Shape := ⟨2, ![128, 21]⟩
abbrev S128x42 : Shape := ⟨2, ![128, 42]⟩
abbrev S128x22 : Shape := ⟨2, ![128, 22]⟩
abbrev S128x41 : Shape := ⟨2, ![128, 41]⟩
abbrev S128x23 : Shape := ⟨2, ![128, 23]⟩
abbrev S128x40 : Shape := ⟨2, ![128, 40]⟩
abbrev S128x24 : Shape := ⟨2, ![128, 24]⟩
abbrev S128x39 : Shape := ⟨2, ![128, 39]⟩
abbrev S128x25 : Shape := ⟨2, ![128, 25]⟩
abbrev S128x38 : Shape := ⟨2, ![128, 38]⟩
abbrev S128x26 : Shape := ⟨2, ![128, 26]⟩
abbrev S128x37 : Shape := ⟨2, ![128, 37]⟩
abbrev S128x27 : Shape := ⟨2, ![128, 27]⟩
abbrev S128x36 : Shape := ⟨2, ![128, 36]⟩
abbrev S128x28 : Shape := ⟨2, ![128, 28]⟩
abbrev S128x35 : Shape := ⟨2, ![128, 35]⟩
abbrev S128x29 : Shape := ⟨2, ![128, 29]⟩
abbrev S128x34 : Shape := ⟨2, ![128, 34]⟩
abbrev S128x30 : Shape := ⟨2, ![128, 30]⟩
abbrev S128x33 : Shape := ⟨2, ![128, 33]⟩
abbrev S128x31 : Shape := ⟨2, ![128, 31]⟩
abbrev S128x32 : Shape := ⟨2, ![128, 32]⟩
abbrev S2x2048x64x1 : Shape := ⟨4, ![2, 2048, 64, 1]⟩

abbrev nBuf : Space → Nat
  | .hbm => 12
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S2x2048x64x256, .f32⟩
  | .hbm, ⟨2, _⟩ => ⟨S1024x256, .f32⟩
  | .hbm, ⟨3, _⟩ => ⟨S256x256, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S2x131072x256, .f32⟩
  | .hbm, ⟨9, _⟩ => ⟨S1x128, .f32⟩
  | .hbm, ⟨10, _⟩ => ⟨S2x2048x64, .f32⟩
  | .hbm, ⟨11, _⟩ => ⟨S2x2048x64x1, .f32⟩
  | .local _ .vmem, ⟨0, _⟩ => ⟨S1x128x1024, .f32⟩
  | .local _ .vmem, ⟨1, _⟩ => ⟨S1x128x1024, .f32⟩
  | .local _ .vmem, ⟨2, _⟩ => ⟨S1x8192x256, .f32⟩
  | .local _ .vmem, ⟨3, _⟩ => ⟨S1x8192x256, .f32⟩
  | .local _ .vmem, ⟨4, _⟩ => ⟨S1024x256, .f32⟩
  | .local _ .vmem, ⟨5, _⟩ => ⟨S256x256, .f32⟩
  | .local _ .vmem, ⟨6, _⟩ => ⟨S256x128, .f32⟩
  | .local _ .vmem, ⟨7, _⟩ => ⟨S1x128, .f32⟩
  | .local _ .vmem, ⟨8, _⟩ => ⟨S128x1, .f32⟩
  | .local _ .vmem, ⟨9, _⟩ => ⟨S1x128x64, .f32⟩
  | .local _ .vmem, ⟨10, _⟩ => ⟨S1x128x64, .f32⟩
  | .local _ .vmem, ⟨11, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x2048x1024 : Shape := ⟨3, ![2, 2048, 1024]⟩
abbrev S2x2048x64x256 : Shape := ⟨4, ![2, 2048, 64, 256]⟩
abbrev S1024x256 : Shape := ⟨2, ![1024, 256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S2048 : Shape := ⟨1, ![2048]⟩
abbrev S_ : Shape := ⟨0, ![]⟩
abbrev S1x2048x1 : Shape := ⟨3, ![1, 2048, 1]⟩
abbrev S2x2048x256 : Shape := ⟨3, ![2, 2048, 256]⟩
abbrev S2x2048x1x256 : Shape := ⟨4, ![2, 2048, 1, 256]⟩
abbrev S2x2048x64x128 : Shape := ⟨4, ![2, 2048, 64, 128]⟩
abbrev S1x1x1x128 : Shape := ⟨4, ![1, 1, 1, 128]⟩
abbrev S2x2048x64x1 : Shape := ⟨4, ![2, 2048, 64, 1]⟩
abbrev S1x1x1x1 : Shape := ⟨4, ![1, 1, 1, 1]⟩
abbrev S2x2048x64 : Shape := ⟨3, ![2, 2048, 64]⟩
abbrev S2x2048x32 : Shape := ⟨3, ![2, 2048, 32]⟩
abbrev S2x2048x32x1 : Shape := ⟨4, ![2, 2048, 32, 1]⟩
abbrev S1x1x1x64 : Shape := ⟨4, ![1, 1, 1, 64]⟩
abbrev S2x2048x32x64 : Shape := ⟨4, ![2, 2048, 32, 64]⟩
abbrev S2x2048 : Shape := ⟨2, ![2, 2048]⟩
abbrev S2x2048x1 : Shape := ⟨3, ![2, 2048, 1]⟩

abbrev nBuf : Space → Nat
  | .hbm => 77
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x64x256, .f32⟩
  | .hbm, ⟨2, _⟩ => ⟨S1024x256, .f32⟩
  | .hbm, ⟨3, _⟩ => ⟨S256x256, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S1x2048x1, .f32⟩
  | .hbm, ⟨13, _⟩ => ⟨S_, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x256, .f32⟩
  | .hbm, ⟨19, _⟩ => ⟨S2x2048x1x256, .f32⟩
  | .hbm, ⟨20, _⟩ => ⟨S2x2048x64x256, .f32⟩
  | .hbm, ⟨21, _⟩ => ⟨S2x2048x64x256, .f32⟩
  | .hbm, ⟨22, _⟩ => ⟨S2x2048x64x256, .f32⟩
  | .hbm, ⟨23, _⟩ => ⟨S2x2048x64x256, .f32⟩
  | .hbm, ⟨24, _⟩ => ⟨S2x2048x64x128, .f32⟩
  | .hbm, ⟨25, _⟩ => ⟨S1x1x1x128, .f32⟩
  | .hbm, ⟨26, _⟩ => ⟨S2x2048x64x128, .f32⟩
  | .hbm, ⟨27, _⟩ => ⟨S2x2048x64x128, .f32⟩
  | .hbm, ⟨28, _⟩ => ⟨S_, .f32⟩
  | .hbm, ⟨29, _⟩ => ⟨S2x2048x64x128, .f32⟩
  | .hbm, ⟨30, _⟩ => ⟨S2x2048x64x128, .f32⟩
  | .hbm, ⟨31, _⟩ => ⟨S2x2048x64x1, .f32⟩
  | .hbm, ⟨32, _⟩ => ⟨S1x1x1x1, .f32⟩
  | .hbm, ⟨33, _⟩ => ⟨S2x2048x64x1, .f32⟩
  | .hbm, ⟨34, _⟩ => ⟨S2x2048x64x1, .f32⟩
  | .hbm, ⟨35, _⟩ => ⟨S2x2048x64, .f32⟩
  | .hbm, ⟨36, _⟩ => ⟨S2x2048x32, .f32⟩
  | .hbm, ⟨37, _⟩ => ⟨S2x2048x32, .i32⟩
  | .hbm, ⟨38, _⟩ => ⟨S2x2048x32x1, .i32⟩
  | .hbm, ⟨39, _⟩ => ⟨S1x1x1x64, .i32⟩
  | .hbm, ⟨40, _⟩ => ⟨S2x2048x32x64, .i32⟩
  | .hbm, ⟨41, _⟩ => ⟨S2x2048x32x64, .i32⟩
  | .hbm, ⟨42, _⟩ => ⟨S2x2048x32x64, .i1⟩
  | .hbm, ⟨43, _⟩ => ⟨S2x2048x32x64, .f32⟩
  | .hbm, ⟨44, _⟩ => ⟨S_, .f32⟩
  | .hbm, ⟨45, _⟩ => ⟨S2x2048x64, .f32⟩
  | .hbm, ⟨46, _⟩ => ⟨S_, .f32⟩
  | .hbm, ⟨47, _⟩ => ⟨S2x2048x64, .f32⟩
  | .hbm, ⟨48, _⟩ => ⟨S2x2048x64, .f32⟩
  | .hbm, ⟨49, _⟩ => ⟨S_, .f32⟩
  | .hbm, ⟨50, _⟩ => ⟨S2x2048, .f32⟩
  | .hbm, ⟨51, _⟩ => ⟨S_, .f32⟩
  | .hbm, ⟨52, _⟩ => ⟨S2x2048, .f32⟩
  | .hbm, ⟨53, _⟩ => ⟨S2x2048, .f32⟩
  | .hbm, ⟨54, _⟩ => ⟨S2x2048x1, .f32⟩
  | .hbm, ⟨55, _⟩ => ⟨S2x2048x64, .f32⟩
  | .hbm, ⟨56, _⟩ => ⟨S2x2048x64, .f32⟩
  | .hbm, ⟨57, _⟩ => ⟨S2x2048x64, .f32⟩
  | .hbm, ⟨58, _⟩ => ⟨S_, .f32⟩
  | .hbm, ⟨59, _⟩ => ⟨S2x2048, .f32⟩
  | .hbm, ⟨60, _⟩ => ⟨S2x2048x1, .f32⟩
  | .hbm, ⟨61, _⟩ => ⟨S2x2048x64, .f32⟩
  | .hbm, ⟨62, _⟩ => ⟨S2x2048x64, .f32⟩
  | .hbm, ⟨63, _⟩ => ⟨S_, .f32⟩
  | .hbm, ⟨64, _⟩ => ⟨S2x2048x64, .f32⟩
  | .hbm, ⟨65, _⟩ => ⟨S2x2048x64, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S2x2048x64, .f32⟩
  | .hbm, ⟨70, _⟩ => ⟨S2x2048x64, .f32⟩
  | .hbm, ⟨71, _⟩ => ⟨S_, .f32⟩
  | .hbm, ⟨72, _⟩ => ⟨S2x2048x64, .f32⟩
  | .hbm, ⟨73, _⟩ => ⟨S2x2048x64, .f32⟩
  | .hbm, ⟨74, _⟩ => ⟨S2x2048x64, .f32⟩
  | .hbm, ⟨75, _⟩ => ⟨S2x2048x64, .f32⟩
  | .hbm, ⟨76, _⟩ => ⟨S2x2048x64x1, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_call0_cst : Ref sig .tc := ⟨.hbm, 13, rfl⟩
abbrev main_call0_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_values : Ref sig .tc := ⟨.hbm, 36, rfl⟩
abbrev main_indices : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_cst_8 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩

abbrev nD : Nat := 1
abbrev τ : Topo := Topo.v7x

variable {F : FTy → Type} [FloatOps F]
-- ==== Proof.Order.lean ====
/- The order behind the mask, with no program in it: the rank of an entry of a row (how many entries come before it when
   greater entries come first and equal entries come in index order), the fact that a stable descending sort puts an entry
   among its first `m` exactly when its rank is below `m`, and the rank as a sum over the rotations of the row. -/
module

public import Idealize.ShloMosaic.Lib.SortFacts
public import Idealize.ShloMosaic.Lib.SortPrefix
public import Mathlib.Algebra.BigOperators.Fin
public import Mathlib.Algebra.Group.Units.Equiv
public import Mathlib.Data.ZMod.Defs

@[expose] public section

namespace Cert.Mask

open Idealize.ShloMosaic

variable {α : Type} [LinearOrder α] {n : ℕ}

/-- Entry `j` of the row `x` comes before entry `i`: it is greater, or equal and at a smaller index. -/
def Beats (x : Fin n → α) (j i : Fin n) : Prop := x i < x j ∨ (x j = x i ∧ j < i)

/-- Whether one entry beats another can be decided. -/
instance (x : Fin n → α) (j i : Fin n) : Decidable (Beats x j i) := by unfold Beats; infer_instance

/-- How many entries of the row come before entry `i`. -/
def rank (x : Fin n → α) (i : Fin n) : ℕ := (Finset.univ.filter fun j => Beats x j i).card

/-- What beats an entry that beats a third beats the third. -/
theorem Beats.trans {x : Fin n → α} {a b c : Fin n} (hab : Beats x a b) (hbc : Beats x b c) : Beats x a c := by
  rcases hab with h | ⟨e, h⟩ <;> rcases hbc with k | ⟨f, k⟩
  · exact Or.inl (k.trans h)
  · exact Or.inl (f ▸ h)
  · exact Or.inl (e ▸ k)
  · exact Or.inr ⟨e.trans f, h.trans k⟩

/-- No entry beats itself. -/
theorem Beats.irrefl (x : Fin n → α) (a : Fin n) : ¬ Beats x a a := by simp [Beats]

/-- Of two different entries one beats the other. -/
theorem Beats.total (x : Fin n → α) {a b : Fin n} (hne : a ≠ b) : Beats x a b ∨ Beats x b a := by
  rcases lt_trichotomy (x a) (x b) with h | h | h
  · exact Or.inr (Or.inl h)
  · rcases lt_or_gt_of_ne hne with k | k
    · exact Or.inl (Or.inr ⟨h, k⟩)
    · exact Or.inr (Or.inr ⟨h.symm, k⟩)
  · exact Or.inl (Or.inl h)

/-- "Comes before", as the strict total order on positions that it is. -/
theorem beats_total (x : Fin n → α) : StrictTotalBefore fun j i : Fin n => decide (Beats x j i) where
  irrefl a := decide_eq_false (Beats.irrefl x a)
  trans a b c hab hbc := decide_eq_true ((of_decide_eq_true hab).trans (of_decide_eq_true hbc))
  total a b hne := (Beats.total x hne).imp decide_eq_true decide_eq_true

/-- Two comparators that agree on every pair (later, earlier) of a list sort the list alike: the stable sort only ever asks
    whether a later element goes before an earlier one. -/
theorem stableSort_congr_later {ι : Type} (R R' : ι → ι → Bool) (l : List ι)
    (hl : l.Pairwise fun a b => R b a = R' b a) : stableSort R l = stableSort R' l := by
  induction l with
  | nil => rfl
  | cons a l ih =>
    obtain ⟨ha, hl⟩ := List.pairwise_cons.mp hl
    unfold stableSort
    rw [ih hl]
    exact insertBefore_congr R R' a _ fun b hb => ha b ((perm_stableSort R' l).mem_iff.mp hb)

/-- The stable sort by "greater" is the sort by "comes before". -/
theorem sortedFrom_greater (x : Fin n → α) :
    sortedFrom (fun k k' : Fin n => decide (x k' < x k)) = sortedFrom fun j i : Fin n => decide (Beats x j i) := by
  have e : sortPositions n (fun k k' : Fin n => decide (x k' < x k)) = sortPositions n fun j i : Fin n => decide (Beats x j i) := by
    refine stableSort_congr_later _ _ _ ((List.pairwise_lt_finRange n).imp fun {a b} hab => ?_)
    refine decide_eq_decide.mpr ⟨Or.inl, ?_⟩
    rintro (h | ⟨-, h⟩)
    · exact h
    · exact absurd hab h.not_gt
  funext k
  unfold sortedFrom
  simp only [List.get_eq_getElem, e]
  rfl

/-- In the sort by "comes before", an entry comes before another exactly when its place is the smaller one. -/
theorem beats_sortedFrom_iff (x : Fin n → α) (p q : Fin n) :
    Beats x (sortedFrom (fun j i : Fin n => decide (Beats x j i)) p) (sortedFrom (fun j i : Fin n => decide (Beats x j i)) q)
      ↔ p < q := by
  have hB := beats_total x
  have hinv : ∀ p q : Fin n, p < q → decide (Beats x (sortedFrom (fun j i : Fin n => decide (Beats x j i)) q)
      (sortedFrom (fun j i : Fin n => decide (Beats x j i)) p)) = false := by
    intro p q h
    have hs := hB.sorted_stableSort (List.finRange n)
    exact List.pairwise_iff_get.mp hs _ _ h
  have hlt : ∀ p q : Fin n, p < q → Beats x (sortedFrom (fun j i : Fin n => decide (Beats x j i)) p)
      (sortedFrom (fun j i : Fin n => decide (Beats x j i)) q) := by
    intro p q h
    rcases hB.total _ _ (fun e => h.ne (sortedFrom_injective _ e)) with k | k
    · exact of_decide_eq_true k
    · have := hinv p q h; rw [k] at this; exact absurd this (by decide)
  refine ⟨fun h => ?_, hlt p q⟩
  by_contra hn
  rcases lt_or_eq_of_le (not_lt.mp hn) with k | k
  · exact of_decide_eq_false (hinv q p k) h
  · subst k; exact of_decide_eq_false (hB.irrefl _) h

/-- The entry that the sort puts at place `q` has rank `q`. -/
theorem rank_sortedFrom (x : Fin n → α) (q : Fin n) :
    rank x (sortedFrom (fun k k' : Fin n => decide (x k' < x k)) q) = q.val := by
  rw [sortedFrom_greater]
  unfold rank
  have hb : Function.Bijective (sortedFrom fun j i : Fin n => decide (Beats x j i)) :=
    ⟨sortedFrom_injective _, sortedFrom_surjective _⟩
  rw [← Fin.card_Iio q]
  symm
  refine Finset.card_bij (fun p _ => sortedFrom (fun j i : Fin n => decide (Beats x j i)) p) ?_ ?_ ?_
  · intro p hp
    exact Finset.mem_filter.mpr ⟨Finset.mem_univ _, (beats_sortedFrom_iff x p q).mpr (Finset.mem_Iio.mp hp)⟩
  · intro p _ p' _ h
    exact hb.1 h
  · intro j hj
    obtain ⟨p, rfl⟩ := hb.2 j
    exact ⟨p, Finset.mem_Iio.mpr ((beats_sortedFrom_iff x p q).mp (Finset.mem_filter.mp hj).2), rfl⟩

/-- Marking the entries at the first `m` places of the stable descending sort marks the entries of rank below `m`, each
    once. -/
theorem sum_first_eq {M : Type} [AddCommMonoid M] (u : M) (x : Fin n → α) (m : ℕ) (hm : m ≤ n) (i : Fin n) :
    (∑ q : Fin m, if sortedFrom (fun k k' : Fin n => decide (x k' < x k)) (q.castLE hm) = i then u else 0)
      = if rank x i < m then u else 0 := by
  have hp : ∀ q : Fin m, sortedFrom (fun k k' : Fin n => decide (x k' < x k)) (q.castLE hm) = i ↔ q.val = rank x i := by
    intro q
    constructor
    · rintro rfl; exact (rank_sortedFrom x (q.castLE hm)).symm
    · intro h
      obtain ⟨p, rfl⟩ := sortedFrom_surjective (fun k k' : Fin n => decide (x k' < x k)) i
      rw [rank_sortedFrom] at h
      exact congrArg _ (Fin.ext h)
  simp only [hp]
  split
  · next h =>
    rw [Finset.sum_eq_single (⟨rank x i, h⟩ : Fin m)]
    · simp
    · intro q _ hq
      exact if_neg fun e => hq (Fin.ext e)
    · intro h'; exact absurd (Finset.mem_univ _) h'
  · next h =>
    exact Finset.sum_eq_zero fun q _ => if_neg fun e : q.val = rank x i => h (e ▸ q.isLt)

/-- The rank depends on the order of the entries alone: a strictly increasing map of the entries keeps it. -/
theorem rank_strictMono {β : Type} [LinearOrder β] (f : α → β) (hf : StrictMono f) (x : Fin n → α) (i : Fin n) :
    rank (fun j => f (x j)) i = rank x i := by
  unfold rank Beats
  simp only [hf.lt_iff_lt, hf.injective.eq_iff]

/-- The rank as a count over the rotations of the row: an entry is never before itself, so the rotation by nothing counts
    nothing. -/
theorem rank_eq_sum_rotations (x : Fin (n + 1) → α) (i : Fin (n + 1)) :
    rank x i = ∑ d : Fin n, if Beats x (i + d.succ) i then 1 else 0 := by
  have h0 : ¬ Beats x (i + 0) i := by rw [add_zero]; exact Beats.irrefl x i
  unfold rank
  rw [Finset.card_filter, ← Equiv.sum_comp (Equiv.addLeft i), Fin.sum_univ_succ]
  exact (congrArg (· + _) (if_neg h0)).trans (zero_add _)

end Cert.Mask

end
-- ==== Proof.Rank.lean ====
/- The kernel's rank: 63 rotations of the scores of a tile, each compared with the scores themselves and counted, are the
   rank of every score in its row; and the compare that ends it is the mask "rank below 32". -/
module

public import proofs.«01_k».proof.Proof.Order
public import proofs.«01_k».proof.Proof.Gen.KernelIdeal.Frame
public import Idealize.ShloMosaic.Lib.Pipeline.Value
public import Idealize.ShloMosaic.Lib.Pointwise

@[expose] public section

set_option maxRecDepth 16384

namespace Cert.Mask

open Cert.KernelIdeal Cert.KernelIdeal.Gen Idealize.ShloMosaic

/-- The lanes from `d` on are a slice of a row of 64. -/
theorem slices_hi (d : ℕ) (hd : d ≤ 64) : S128x64.Slices ![0, d] ⟨2, ![128, 64 - d]⟩ := by
  refine ⟨rfl, fun a => ?_⟩
  fin_cases a
  · exact le_refl 128
  · show d + (64 - d) ≤ 64
    omega

/-- A bit counted as a number. -/
theorem sitofp_bit (P : Prop) [Decidable P] :
    FloatOps.sitofp (F := Ideal) .f32 (BitVec.setWidth 32 (BitVec.ofBool (decide P))) = if P then (1 : EReal) else 0 := by
  by_cases h : P
  · rw [if_pos h, decide_eq_true h]
    show (((BitVec.setWidth 32 (BitVec.ofBool true)).toInt : ℝ) : EReal) = 1
    rw [show (BitVec.setWidth 32 (BitVec.ofBool true)).toInt = 1 from by decide]
    simp
  · rw [if_neg h, decide_eq_false h]
    show (((BitVec.setWidth 32 (BitVec.ofBool false)).toInt : ℝ) : EReal) = 0
    rw [show (BitVec.setWidth 32 (BitVec.ofBool false)).toInt = 0 from by decide]
    simp

/-- Three comparisons joined as bits are the comparison of the joined statement. -/
theorem or_and_bits (P Q R : Prop) [Decidable P] [Decidable Q] [Decidable R] [Decidable (P ∨ Q ∧ R)] :
    IntOp.ori (BitVec.ofBool (decide P)) (IntOp.andi (BitVec.ofBool (decide Q)) (BitVec.ofBool (decide R)))
      = BitVec.ofBool (decide (P ∨ Q ∧ R)) := by
  by_cases hP : P <;> by_cases hQ : Q <;> by_cases hR : R <;>
    simp [hP, hQ, hR, IntOp.ori, IntOp.andi]

/-- The scores of a tile rotated by `d` along the row, as the program writes it: the columns from `d` on, then the first `d`. -/
noncomputable def rot (sc : FVec Ideal S128x64 .f32) (d : ℕ) (hhi : S128x64.Slices ![0, d] ⟨2, ![128, 64 - d]⟩)
    (hlo : S128x64.Slices ![0, 0] ⟨2, ![128, d]⟩)
    (hcat : Shape.Concatenates [⟨2, ![128, 64 - d]⟩, ⟨2, ![128, d]⟩] S128x64 1) : FVec Ideal S128x64 .f32 :=
  concatenate S128x64 1
    [⟨⟨2, ![128, 64 - d]⟩, extractStridedSlice ⟨2, ![128, 64 - d]⟩ ![0, d] sc hhi⟩,
     ⟨⟨2, ![128, d]⟩, extractStridedSlice ⟨2, ![128, d]⟩ ![0, 0] sc hlo⟩] hcat

/-- The rotated row at `i` is the row at `i + d`, counted round. -/
theorem rot_apply (sc : FVec Ideal S128x64 .f32) (d : ℕ) (hd : d < 64) (hhi hlo hcat) (p : Fin 128) (i : Fin 64) :
    rot sc d hhi hlo hcat (ix2 p i) = sc (ix2 p (i + ⟨d, hd⟩)) := by
  unfold rot
  pointwise
  have hi := i.isLt
  split
  · next h =>
    refine congrArg sc (congrArg (ix2 p) (Fin.ext ?_))
    show d + i.val = (i.val + d) % 64
    omega
  · next h =>
    refine congrArg sc (congrArg (ix2 p) (Fin.ext ?_))
    show i.val - (64 - d) = (i.val + d) % 64
    omega

/-- One of the kernel's 63 steps as the program writes it, for a rotation by `d`: the rotated scores compared with the
    scores, the comparison counted onto `acc`. -/
noncomputable def step (sc : FVec Ideal S128x64 .f32) (d : ℕ) (hhi : S128x64.Slices ![0, d] ⟨2, ![128, 64 - d]⟩)
    (hlo : S128x64.Slices ![0, 0] ⟨2, ![128, d]⟩)
    (hcat : Shape.Concatenates [⟨2, ![128, 64 - d]⟩, ⟨2, ![128, d]⟩] S128x64 1) (acc : FVec Ideal S128x64 .f32) :
    FVec Ideal S128x64 .f32 :=
  addf acc (sitofp .f32 (extui 32 (ori (cmpf .ogt (rot sc d hhi hlo hcat) sc) (andi (cmpf .oeq (rot sc d hhi hlo hcat) sc)
    (cmpi .sge (iota .tc S128x64 32 [1] iota_S128x64_d1_w32) (broadcast S128x64 (BitVec.ofNat 32 (64 - d)))))) natLt_1_32))

/-- A step counts the entries it meets that come before: the tie is broken by "the rotation went round", which is "its
    index is smaller". -/
theorem step_apply (sc : FVec Ideal S128x64 .f32) (d : ℕ) (hd : d < 64) (h0 : 0 < d) (hhi hlo hcat)
    (acc : FVec Ideal S128x64 .f32) (p : Fin 128) (i : Fin 64) :
    step sc d hhi hlo hcat acc (ix2 p i)
      = acc (ix2 p i) + if Beats (fun j : Fin 64 => sc (ix2 p j)) (i + ⟨d, hd⟩) i then 1 else 0 := by
  unfold step
  pointwise
  have hi := i.isLt
  have hw : (IntOp.cmpi .sge (BitVec.ofNat 32 i.val) (BitVec.ofNat 32 (64 - d))) = BitVec.ofBool (decide (i + ⟨d, hd⟩ < i)) := by
    have hlt : (i + ⟨d, hd⟩ < i) ↔ 64 - d ≤ i.val := by
      show (i.val + d) % 64 < i.val ↔ _
      omega
    rw [decide_eq_decide.mpr hlt]
    exact WordCmp.cmpi_sge_ofNat (by omega) (by omega)
  rw [hw, rot_apply sc d hd]
  congr 1
  refine Eq.trans (congrArg (fun b => FloatOps.sitofp (F := Ideal) FTy.f32 (BitVec.setWidth 32 b)) ?_) (sitofp_bit _)
  exact or_and_bits _ _ _

/-- The first `d` lanes are a slice of a row of 64. -/
theorem slices_lo (d : ℕ) (hd : d ≤ 64) : S128x64.Slices ![0, 0] ⟨2, ![128, d]⟩ := by
  refine ⟨rfl, fun a => ?_⟩
  fin_cases a
  · exact le_refl 128
  · show 0 + d ≤ 64
    omega

/-- The two slices put together the other way round are a row of 64 again. -/
theorem concatenates_rot (d : ℕ) (hd : d ≤ 64) :
    Shape.Concatenates [⟨2, ![128, 64 - d]⟩, ⟨2, ![128, d]⟩] S128x64 1 := by
  refine ⟨le_refl 2, fun s hs => ?_, ?_⟩
  · simp only [List.mem_cons, List.not_mem_nil, or_false] at hs
    rcases hs with rfl | rfl
    · refine ⟨rfl, fun b hb => ?_⟩
      fin_cases b
      · rfl
      · exact absurd rfl hb
    · refine ⟨rfl, fun b hb => ?_⟩
      fin_cases b
      · rfl
      · exact absurd rfl hb
  · show (64 - d) + (d + 0) = 64
    omega

/-- The first `n` steps, from the count of nothing. -/
noncomputable def steps (sc : FVec Ideal S128x64 .f32) : (n : ℕ) → n ≤ 63 → FVec Ideal S128x64 .f32
  | 0, _ => broadcast S128x64 (Scalar.ofBits .f32 0x00000000#32)
  | n + 1, h => step sc (n + 1) (slices_hi (n + 1) (by omega)) (slices_lo (n + 1) (by omega)) (concatenates_rot (n + 1) (by omega))
      (steps sc n (by omega))

/-- The first `n` steps count, for every entry, the entries among the next `n` of its row (counted round) that come before
    it. -/
theorem steps_apply (sc : FVec Ideal S128x64 .f32) (n : ℕ) (hn : n ≤ 63) (p : Fin 128) (i : Fin 64) :
    steps sc n hn (ix2 p i)
      = ∑ d : Fin n, if Beats (fun j : Fin 64 => sc (ix2 p j)) (i + ⟨d.val + 1, by omega⟩) i then (1 : EReal) else 0 := by
  induction n with
  | zero => exact Ideal.ofBits_zero_f32
  | succ n ih =>
    rw [steps, step_apply sc (n + 1) (by omega) (by omega), ih (by omega), Fin.sum_univ_castSucc]
    rfl

/-- All 63 steps are the rank. -/
theorem steps_eq_rank (sc : FVec Ideal S128x64 .f32) (p : Fin 128) (i : Fin 64) :
    steps sc 63 (le_refl 63) (ix2 p i) = ((rank (fun j : Fin 64 => sc (ix2 p j)) i : ℕ) : EReal) := by
  rw [steps_apply, rank_eq_sum_rotations, Nat.cast_sum]
  refine Finset.sum_congr rfl fun d _ => ?_
  rw [Nat.cast_ite, Nat.cast_one, Nat.cast_zero]
  rfl

/-- The bit pattern of thirty-two is thirty-two. -/
theorem ofBits_32 : Ideal.ofBits .f32 0x42000000#32 = ((32 : ℕ) : EReal) := by
  simp [Ideal.ofBits, Ideal.ieee]
  rw [← EReal.coe_mul]
  norm_num
  rfl

/-- A count compares with thirty-two as it does among the natural numbers. -/
theorem natCast_lt_32 (r : ℕ) : ((r : ℕ) : EReal) < ((32 : ℕ) : EReal) ↔ r < 32 := Nat.cast_lt

/-- The mask the kernel makes of a tile of scores, as the program writes it. -/
noncomputable def mask (sc : FVec Ideal S128x64 .f32) : FVec Ideal S1x128x64 .f32 :=
  shapeCast S1x128x64 (sitofp .f32 (extui 32 (cmpf .olt (steps sc 63 (le_refl 63))
    (broadcast S128x64 (Scalar.ofBits .f32 0x42000000#32))) natLt_1_32)) shapeCasts_S128x64_S1x128x64

/-- The mask is one where the rank is below 32 and zero elsewhere. -/
theorem mask_apply (sc : FVec Ideal S128x64 .f32) (p : Fin 128) (i : Fin 64) :
    mask sc (ix3 0 p i) = if rank (fun j : Fin 64 => sc (ix2 p j)) i < 32 then (1 : EReal) else 0 := by
  unfold mask
  pointwise
  rw [sitofp_bit, steps_eq_rank, ofBits_32]
  simp only [natCast_lt_32]

end Cert.Mask

end
-- ==== Proof.Block.lean ====
/- What one block of the kernel leaves: the mask of the scores of its tile, and the carried row of the running sum. -/
module

public import proofs.«01_k».proof.Proof.Rank

@[expose] public section

set_option maxRecDepth 16384

namespace Cert.Mask

open Cert.KernelIdeal Cert.KernelIdeal.Gen Idealize.ShloMosaic

/-- Two offsets written as zeros are zero everywhere. -/
theorem zeros2 : (![0, 0] : Fin 2 → Nat) = fun _ => 0 := funext fun a => by fin_cases a <;> rfl
/-- Three offsets written as zeros are zero everywhere. -/
theorem zeros3 : (![0, 0, 0] : Fin 3 → Nat) = fun _ => 0 := funext fun a => by fin_cases a <;> rfl

/-- The scores of a tile, from the blocks it reads and the carried row of the running sum. -/
noncomputable def scores (i : grid0.Coords) (x0 : Vec Ideal S1x128x1024 .f32) (x1 : Vec Ideal S1x8192x256 .f32)
    (x2 : Vec Ideal S1024x256 .f32) (x3 : Vec Ideal S256x256 .f32) (x4 : Vec Ideal S256x128 .f32) (x5 : Vec Ideal S1x128 .f32)
    (x6 : Vec Ideal S128x1 .f32) (carry : Vec Ideal S1x1024 .f32) : FVec Ideal S128x64 .f32 :=
  k0_pay7 (k0_pay5 x1 x3) (k0_pay6 i x0 carry x2) x4 x5 x6

/-- The chain of values the program computes from the scores is the mask. -/
theorem chain_eq_mask (a : FVec Ideal S128x64x256 .f32) (b : FVec Ideal S128x1x256 .f32) (x4 : Vec Ideal S256x128 .f32)
    (x5 : Vec Ideal S1x128 .f32) (x6 : Vec Ideal S128x1 .f32) (sc : FVec Ideal S128x64 .f32) (hsc : k0_pay7 a b x4 x5 x6 = sc)
    (io : IVec S128x64 32) (hio : io = iota .tc S128x64 32 [1] iota_S128x64_d1_w32) :
    k0_pay1 sc io (k0_pay47 sc io (k0_pay45 sc io (k0_pay41 sc io (k0_pay39 sc io (k0_pay37 sc io (k0_pay32 sc io (k0_pay31 sc io
      (k0_pay27 sc io (k0_pay25 sc io (k0_pay22 sc io (k0_pay17 sc io (k0_pay15 sc io (k0_pay12 sc io (k0_pay8 a b x4 x5 x6)
      (k0_pay10 a b x4 x5 x6) (k0_pay11 a b x4 x5 x6)) (k0_pay13 sc) (k0_pay14 sc)) (k0_pay16 sc io)) (k0_pay19 sc) (k0_pay20 sc)
      k0_pay21) (k0_pay23 sc) (k0_pay24 sc)) (k0_pay26 sc io)) (k0_pay29 sc) (k0_pay30 sc))) (k0_pay34 sc) (k0_pay35 sc)
      (k0_pay36 io)) (k0_pay38 sc)) (k0_pay40 sc io)) (k0_pay43 sc) (k0_pay44 sc) 11#32) (k0_pay46 sc)) (k0_pay49 sc)
      (k0_pay50 sc io) = mask sc := by
  unfold k0_pay8 k0_pay10 k0_pay11 k0_pay9
  rw [hsc, hio]
  rfl

/-- A later tile of a batch writes the mask of its scores, with the carry it finds. -/
theorem out_B (c : Dev nD) (i : grid0.Coords)
    (arg2 : Memref sig .tc .vmem S1x128x1024 .f32) (harg2 : arg2.IsWhole)
    (arg3 : Memref sig .tc .vmem S1x8192x256 .f32) (harg3 : arg3.IsWhole)
    (arg4 : Memref sig .tc .vmem S1024x256 .f32) (harg4 : arg4.IsWhole)
    (arg5 : Memref sig .tc .vmem S256x256 .f32) (harg5 : arg5.IsWhole)
    (arg6 : Memref sig .tc .vmem S256x128 .f32) (harg6 : arg6.IsWhole)
    (arg7 : Memref sig .tc .vmem S1x128 .f32) (harg7 : arg7.IsWhole)
    (arg8 : Memref sig .tc .vmem S128x1 .f32) (harg8 : arg8.IsWhole)
    (arg9 : Memref sig .tc .vmem S1x128x64 .f32) (harg9 : arg9.IsWhole)
    (arg10 : Memref sig .tc .vmem S1x1024 .f32) (harg10 : arg10.IsWhole)
    (hc0 : ¬cond0_0 i)
    (x0 : Vec Ideal S1x128x1024 .f32) (x1 : Vec Ideal S1x8192x256 .f32) (x2 : Vec Ideal S1024x256 .f32) (x3 : Vec Ideal S256x256 .f32) (x4 : Vec Ideal S256x128 .f32) (x5 : Vec Ideal S1x128 .f32) (x6 : Vec Ideal S128x1 .f32) (xs0 : Vec Ideal S1x1024 .f32) :
    out0_B_7 c i arg2 harg2 arg3 harg3 arg4 harg4 arg5 harg5 arg6 harg6 arg7 harg7 arg8 harg8 arg9 harg9 arg10 harg10 hc0
      x0 x1 x2 x3 x4 x5 x6 xs0 = mask (scores i x0 x1 x2 x3 x4 x5 x6 xs0) := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero zeros3]
  simp only [View.readAt_eq_ld, harg2.read_unread, harg3.read_unread, harg4.read_unread, harg5.read_unread, harg6.read_unread,
    harg7.read_unread, harg8.read_unread, harg10.read_unread, View.ld_unit_zero (S := S1x128x1024) zeros3,
    View.ld_unit_zero (S := S1x8192x256) zeros3, View.ld_unit_zero (S := S1024x256) zeros2,
    View.ld_unit_zero (S := S256x256) zeros2, View.ld_unit_zero (S := S256x128) zeros2, View.ld_unit_zero (S := S1x128) zeros2,
    View.ld_unit_zero (S := S128x1) zeros2, View.ld_unit_zero (S := S1x1024) zeros2]
  exact chain_eq_mask _ _ _ _ _ _ rfl _ rfl

/-- The first tile of a batch writes the mask of its scores, with the carry zero. -/
theorem out_A (c : Dev nD) (i : grid0.Coords)
    (arg2 : Memref sig .tc .vmem S1x128x1024 .f32) (harg2 : arg2.IsWhole)
    (arg3 : Memref sig .tc .vmem S1x8192x256 .f32) (harg3 : arg3.IsWhole)
    (arg4 : Memref sig .tc .vmem S1024x256 .f32) (harg4 : arg4.IsWhole)
    (arg5 : Memref sig .tc .vmem S256x256 .f32) (harg5 : arg5.IsWhole)
    (arg6 : Memref sig .tc .vmem S256x128 .f32) (harg6 : arg6.IsWhole)
    (arg7 : Memref sig .tc .vmem S1x128 .f32) (harg7 : arg7.IsWhole)
    (arg8 : Memref sig .tc .vmem S128x1 .f32) (harg8 : arg8.IsWhole)
    (arg9 : Memref sig .tc .vmem S1x128x64 .f32) (harg9 : arg9.IsWhole)
    (arg10 : Memref sig .tc .vmem S1x1024 .f32) (harg10 : arg10.IsWhole)
    (hc0 : cond0_0 i)
    (x0 : Vec Ideal S1x128x1024 .f32) (x1 : Vec Ideal S1x8192x256 .f32) (x2 : Vec Ideal S1024x256 .f32) (x3 : Vec Ideal S256x256 .f32) (x4 : Vec Ideal S256x128 .f32) (x5 : Vec Ideal S1x128 .f32) (x6 : Vec Ideal S128x1 .f32) :
    out0_A_7 c i arg2 harg2 arg3 harg3 arg4 harg4 arg5 harg5 arg6 harg6 arg7 harg7 arg8 harg8 arg9 harg9 arg10 harg10 hc0
      x0 x1 x2 x3 x4 x5 x6 = mask (scores i x0 x1 x2 x3 x4 x5 x6 (k0_pay2 (F := Ideal))) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero zeros3]
  simp only [View.readCov_unit_zero (S := S1x1024) _ zeros2]
  simp only [View.readAt_eq_ld, harg2.read_unread, harg3.read_unread, harg4.read_unread, harg5.read_unread, harg6.read_unread,
    harg7.read_unread, harg8.read_unread, harg10.read_unread, View.ld_unit_zero (S := S1x128x1024) zeros3,
    View.ld_unit_zero (S := S1x8192x256) zeros3, View.ld_unit_zero (S := S1024x256) zeros2,
    View.ld_unit_zero (S := S256x256) zeros2, View.ld_unit_zero (S := S256x128) zeros2, View.ld_unit_zero (S := S1x128) zeros2,
    View.ld_unit_zero (S := S128x1) zeros2, View.ld_unit_zero (S := S1x1024) zeros2]
  exact chain_eq_mask _ _ _ _ _ _ rfl _ rfl

/-- A later tile of a batch leaves the last row of its running sum, begun from the carry it finds. -/
theorem sout_B (c : Dev nD) (i : grid0.Coords)
    (arg2 : Memref sig .tc .vmem S1x128x1024 .f32) (harg2 : arg2.IsWhole)
    (arg3 : Memref sig .tc .vmem S1x8192x256 .f32) (harg3 : arg3.IsWhole)
    (arg4 : Memref sig .tc .vmem S1024x256 .f32) (harg4 : arg4.IsWhole)
    (arg5 : Memref sig .tc .vmem S256x256 .f32) (harg5 : arg5.IsWhole)
    (arg6 : Memref sig .tc .vmem S256x128 .f32) (harg6 : arg6.IsWhole)
    (arg7 : Memref sig .tc .vmem S1x128 .f32) (harg7 : arg7.IsWhole)
    (arg8 : Memref sig .tc .vmem S128x1 .f32) (harg8 : arg8.IsWhole)
    (arg9 : Memref sig .tc .vmem S1x128x64 .f32) (harg9 : arg9.IsWhole)
    (arg10 : Memref sig .tc .vmem S1x1024 .f32) (harg10 : arg10.IsWhole)
    (hc0 : ¬cond0_0 i)
    (x0 : Vec Ideal S1x128x1024 .f32) (x1 : Vec Ideal S1x8192x256 .f32) (x2 : Vec Ideal S1024x256 .f32) (x3 : Vec Ideal S256x256 .f32) (x4 : Vec Ideal S256x128 .f32) (x5 : Vec Ideal S1x128 .f32) (x6 : Vec Ideal S128x1 .f32) (xs0 : Vec Ideal S1x1024 .f32) :
    sout0_B_0 c i arg2 harg2 arg3 harg3 arg4 harg4 arg5 harg5 arg6 harg6 arg7 harg7 arg8 harg8 arg9 harg9 arg10 harg10 hc0
      x0 x1 x2 x3 x4 x5 x6 xs0 = k0_pay4 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero zeros2]
  simp only [View.readAt_eq_ld, harg2.read_unread, harg3.read_unread, harg4.read_unread, harg5.read_unread, harg6.read_unread,
    harg7.read_unread, harg8.read_unread, harg10.read_unread, View.ld_unit_zero (S := S1x128x1024) zeros3,
    View.ld_unit_zero (S := S1x8192x256) zeros3, View.ld_unit_zero (S := S1024x256) zeros2,
    View.ld_unit_zero (S := S256x256) zeros2, View.ld_unit_zero (S := S256x128) zeros2, View.ld_unit_zero (S := S1x128) zeros2,
    View.ld_unit_zero (S := S128x1) zeros2, View.ld_unit_zero (S := S1x1024) zeros2]

/-- The first tile of a batch leaves the last row of its running sum, begun from zero. -/
theorem sout_A (c : Dev nD) (i : grid0.Coords)
    (arg2 : Memref sig .tc .vmem S1x128x1024 .f32) (harg2 : arg2.IsWhole)
    (arg3 : Memref sig .tc .vmem S1x8192x256 .f32) (harg3 : arg3.IsWhole)
    (arg4 : Memref sig .tc .vmem S1024x256 .f32) (harg4 : arg4.IsWhole)
    (arg5 : Memref sig .tc .vmem S256x256 .f32) (harg5 : arg5.IsWhole)
    (arg6 : Memref sig .tc .vmem S256x128 .f32) (harg6 : arg6.IsWhole)
    (arg7 : Memref sig .tc .vmem S1x128 .f32) (harg7 : arg7.IsWhole)
    (arg8 : Memref sig .tc .vmem S128x1 .f32) (harg8 : arg8.IsWhole)
    (arg9 : Memref sig .tc .vmem S1x128x64 .f32) (harg9 : arg9.IsWhole)
    (arg10 : Memref sig .tc .vmem S1x1024 .f32) (harg10 : arg10.IsWhole)
    (hc0 : cond0_0 i)
    (x0 : Vec Ideal S1x128x1024 .f32) (x1 : Vec Ideal S1x8192x256 .f32) (x2 : Vec Ideal S1024x256 .f32) (x3 : Vec Ideal S256x256 .f32) (x4 : Vec Ideal S256x128 .f32) (x5 : Vec Ideal S1x128 .f32) (x6 : Vec Ideal S128x1 .f32) :
    sout0_A_0 c i arg2 harg2 arg3 harg3 arg4 harg4 arg5 harg5 arg6 harg6 arg7 harg7 arg8 harg8 arg9 harg9 arg10 harg10 hc0
      x0 x1 x2 x3 x4 x5 x6 = k0_pay4 x0 (k0_pay2 (F := Ideal)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S1x1024) zeros2, View.readCov_unit_zero (S := S1x1024) _ zeros2]
  simp only [View.readAt_eq_ld, harg2.read_unread, harg3.read_unread, harg4.read_unread, harg5.read_unread, harg6.read_unread,
    harg7.read_unread, harg8.read_unread, harg10.read_unread, View.ld_unit_zero (S := S1x128x1024) zeros3,
    View.ld_unit_zero (S := S1x8192x256) zeros3, View.ld_unit_zero (S := S1024x256) zeros2,
    View.ld_unit_zero (S := S256x256) zeros2, View.ld_unit_zero (S := S256x128) zeros2, View.ld_unit_zero (S := S1x128) zeros2,
    View.ld_unit_zero (S := S128x1) zeros2, View.ld_unit_zero (S := S1x1024) zeros2]

end Cert.Mask

end
-- ==== Proof.Reads.lean ====
/- What the blocks of a grid point hold, in the argument arrays: point `t` is batch `t / 16`, tile `t % 16`. -/
module

public import proofs.«01_k».proof.Proof.Block
public import Idealize.ShloMosaic.Lib.Claim
public import Idealize.ShloMosaic.Lib.Pipeline.ValueKit.Point

@[expose] public section

set_option maxRecDepth 16384

namespace Cert.Mask

open Cert.KernelIdeal Cert.KernelIdeal.Gen Idealize.ShloMosaic Idealize.ShloMosaic.TcCoe Idealize.ShloMosaic.Tactic

variable (m : (ℓ : Loc nD τ sig) → Buf (Elt Ideal) ℓ)

/-- Which block of its array every window reads at a point. -/
theorem idx_in : ∀ t : Fin cfg0.N, win0_0.index t = ![t.val / 16, t.val % 16, 0] ∧ win0_1.index t = ![t.val / 16, t.val % 16, 0]
    ∧ win0_2.index t = ![0, 0] ∧ win0_3.index t = ![0, 0] ∧ win0_4.index t = ![0, 0] ∧ win0_5.index t = ![0, 0]
    ∧ win0_6.index t = ![0, 0] := by decide +kernel

/-- There are 32 points. -/
theorem lt_N (t : Fin cfg0.N) : t.val < 32 := N_0 ▸ t.isLt

/-- The batch of a point. -/
def bat (t : Fin cfg0.N) : Fin 2 := ⟨t.val / 16, by have := lt_N t; omega⟩

/-- The time step of row `p` of a point's tile. -/
def tm (t : Fin cfg0.N) (p : Fin 128) : Fin 2048 := ⟨t.val % 16 * 128 + p.val, by have := p.isLt; omega⟩

/-- The block of states at a point holds the point's batch and its 128 time steps. -/
theorem read_s (c : Dev nD) (t : Fin cfg0.N) (p : Fin 128) (k : Fin 1024) :
    iblk m c 0 t (ix3 0 p k) = m ((c : Thread nD τ).loc main_arg0) (ix3 (bat t) (tm t p) k) := by
  blk_ext [iblk, V, (idx_in t).1, bat, tm]

/-- The region finds the slots' array reshaped to one row per time step and slot. -/
theorem reshaped_r (c : Dev nD) :
    V m c main_v0 = shapeCast S2x131072x256 (m ((c : Thread nD τ).loc main_arg1)) shapeCasts_S2x2048x64x256_S2x131072x256 := by
  simp only [V, V0, List.flatten_cons, List.flatten_nil, List.append_nil]
  after_results <;> rfl

/-- The region finds the first bias reshaped to one row. -/
theorem reshaped_b1 (c : Dev nD) :
    V m c main_v1 = shapeCast S1x128 (m ((c : Thread nD τ).loc main_arg5)) shapeCasts_S128_S1x128 := by
  simp only [V, V0, List.flatten_cons, List.flatten_nil, List.append_nil]
  after_results <;> rfl

/-- The reshape of an array of slots to rows puts slot `n` of time step `u` in row `64 u + n`. -/
theorem cast_rows (x : S2x2048x64x256.Idx → EReal) (b : Fin 2) (u : Fin 2048) (n : Fin 64) (d : Fin 256)
    (h : u.val * 64 + n.val < 131072) :
    shapeCast S2x131072x256 x shapeCasts_S2x2048x64x256_S2x131072x256 (ix3 b ⟨u.val * 64 + n.val, h⟩ d) = x (ix4 b u n d) := by
  refine shapeCast_apply _ _ _ _ ?_
  rw [Shape.rowMajor_val_three, Shape.rowMajor_val_four]
  show ((b.val * 2048 + u.val) * 64 + n.val) * 256 + d.val = (b.val * 131072 + (u.val * 64 + n.val)) * 256 + d.val
  omega

/-- The block of slots at a point holds, row after row, the 64 slots of each of its 128 time steps. -/
theorem read_r (c : Dev nD) (t : Fin cfg0.N) (p : Fin 128) (n : Fin 64) (d : Fin 256) (h : p.val * 64 + n.val < 8192) :
    iblk m c 1 t (ix3 0 ⟨p.val * 64 + n.val, h⟩ d) = m ((c : Thread nD τ).loc main_arg1) (ix4 (bat t) (tm t p) n d) := by
  have hp := p.isLt
  have hn := n.isLt
  have ht := lt_N t
  have e := (idx_in t).2.1
  have e0 : win0_1.index t (0 : Fin 3) = t.val / 16 := congrFun e 0
  have e1 : win0_1.index t (1 : Fin 3) = t.val % 16 := congrFun e 1
  have e2 : win0_1.index t (2 : Fin 3) = 0 := congrFun e 2
  have hrow : (t.val % 16 * 128 + p.val) * 64 + n.val < 131072 := by omega
  have hemb : ((cfg0.win 1).blk t).view.emb (ix3 0 ⟨p.val * 64 + n.val, h⟩ d)
      = ix3 (bat t) ⟨(t.val % 16 * 128 + p.val) * 64 + n.val, hrow⟩ d := by
    funext a
    apply Fin.ext
    fin_cases a
    · show win0_1.index t (0 : Fin 3) * 1 + 1 * 0 = t.val / 16
      omega
    · show win0_1.index t (1 : Fin 3) * 8192 + 1 * (p.val * 64 + n.val) = (t.val % 16 * 128 + p.val) * 64 + n.val
      omega
    · show win0_1.index t (2 : Fin 3) * 256 + 1 * d.val = d.val
      omega
  show V m c main_v0 (((cfg0.win 1).blk t).view.emb (ix3 0 ⟨p.val * 64 + n.val, h⟩ d)) = _
  rw [hemb, reshaped_r]
  exact cast_rows _ (bat t) (tm t p) n d hrow

/-- The block of the context weights is their array. -/
theorem read_Wctx (c : Dev nD) (t : Fin cfg0.N) (k : Fin 1024) (d : Fin 256) :
    iblk m c 2 t (ix2 k d) = m ((c : Thread nD τ).loc main_arg2) (ix2 k d) := by
  blk_ext [iblk, V, (idx_in t).2.2.1]

/-- The block of the slot weights is their array. -/
theorem read_Wslot (c : Dev nD) (t : Fin cfg0.N) (k : Fin 256) (d : Fin 256) :
    iblk m c 3 t (ix2 k d) = m ((c : Thread nD τ).loc main_arg3) (ix2 k d) := by
  blk_ext [iblk, V, (idx_in t).2.2.2.1]

/-- The block of the first layer weights is their array. -/
theorem read_W1 (c : Dev nD) (t : Fin cfg0.N) (k : Fin 256) (d : Fin 128) :
    iblk m c 4 t (ix2 k d) = m ((c : Thread nD τ).loc main_arg4) (ix2 k d) := by
  blk_ext [iblk, V, (idx_in t).2.2.2.2.1]

/-- The block of the first bias is its array, as one row. -/
theorem read_b1 (c : Dev nD) (t : Fin cfg0.N) (d : Fin 128) :
    iblk m c 5 t (ix2 0 d) = m ((c : Thread nD τ).loc main_arg5) (ix1 d) := by
  blk_simp [iblk, (idx_in t).2.2.2.2.2.1]
  rw [reshaped_b1]
  pointwise
  blk_ext [(idx_in t).2.2.2.2.2.1]

/-- The block of the last weights is their one column. -/
theorem read_W2 (c : Dev nD) (t : Fin cfg0.N) (k : Fin 128) :
    iblk m c 6 t (ix2 k 0) = m ((c : Thread nD τ).loc main_arg6) (ix2 k 0) := by
  blk_ext [iblk, V, (idx_in t).2.2.2.2.2.2]

end Cert.Mask

end
-- ==== Proof.Spec.lean ====
/- The mathematics of the problem in the extended reals, as functions of the argument arrays: running mean over time,
   its projection, the slot features, the two-layer scores, the mask of the 32 best. -/
module

public import proofs.«01_k».proof.Proof.Order
public import Idealize.ShloMosaic.PureOps.Ideal.Laws
public import Idealize.ShloMosaic.Lib.Pointwise

@[expose] public section

namespace Cert.Mask

open Idealize.ShloMosaic

/-- An array of extended reals of a literal shape. -/
abbrev Arr (n : ℕ) (sz : Fin n → ℕ) : Type := Shape.Idx ⟨n, sz⟩ → EReal

/-- The arguments that enter the mask. -/
structure Args where
  s : Arr 3 ![2, 2048, 1024]
  r : Arr 4 ![2, 2048, 64, 256]
  Wctx : Arr 2 ![1024, 256]
  Wslot : Arr 2 ![256, 256]
  W1 : Arr 2 ![256, 128]
  b1 : Arr 1 ![128]
  W2 : Arr 2 ![128, 1]

namespace Args
variable (A : Args)

/-- The state at time `u` (zero past the end). -/
noncomputable def sAt (b : Fin 2) (k : Fin 1024) (u : ℕ) : EReal := if h : u < 2048 then A.s (ix3 b ⟨u, h⟩ k) else 0

/-- The sum of the first `n` states. -/
noncomputable def csum (b : Fin 2) (k : Fin 1024) (n : ℕ) : EReal := ∑ u ∈ Finset.range n, A.sAt b k u

/-- The mean of the states up to time `t`. -/
noncomputable def mean (b : Fin 2) (t : Fin 2048) (k : Fin 1024) : EReal :=
  Ideal.div (A.csum b k (t.val + 1)) (((t.val + 1 : ℕ) : ℝ) : EReal)

/-- The mean projected to the slots' features. -/
noncomputable def ctx (b : Fin 2) (t : Fin 2048) (d : Fin 256) : EReal := ∑ k : Fin 1024, A.mean b t k * A.Wctx (ix2 k d)

/-- A slot's own features. -/
noncomputable def slot (b : Fin 2) (t : Fin 2048) (n : Fin 64) (d : Fin 256) : EReal :=
  ∑ e : Fin 256, A.r (ix4 b t n e) * A.Wslot (ix2 e d)

/-- The hidden layer. -/
noncomputable def hid (b : Fin 2) (t : Fin 2048) (n : Fin 64) (h : Fin 128) : EReal :=
  max (∑ d : Fin 256, Ideal.tanh (A.slot b t n d + A.ctx b t d) * A.W1 (ix2 d h) + A.b1 (ix1 h)) 0

/-- A slot's score, without the last bias. -/
noncomputable def score (b : Fin 2) (t : Fin 2048) (n : Fin 64) : EReal := ∑ h : Fin 128, A.hid b t n h * A.W2 (ix2 h 0)

/-- One for the 32 best slots of a time step (ties to the smaller index), zero for the others. -/
noncomputable def best (b : Fin 2) (t : Fin 2048) (n : Fin 64) : EReal := if rank (fun j => A.score b t j) n < 32 then 1 else 0

end Args

end Cert.Mask

end
-- ==== Proof.Points.lean ====
/- What a grid point computes, in the mathematics of the problem: its running sum, its scores, its mask; and the carried row
   from point to point. -/
module

public import proofs.«01_k».proof.Proof.Reads
public import proofs.«01_k».proof.Proof.Spec

@[expose] public section

set_option maxRecDepth 16384

namespace Cert.Mask

open Cert.KernelIdeal Cert.KernelIdeal.Gen Idealize.ShloMosaic Idealize.ShloMosaic.TcCoe Idealize.ShloMosaic.Tactic

variable (m : (ℓ : Loc nD τ sig) → Buf (Elt Ideal) ℓ)

/-- The argument arrays of a memory, as the mathematics reads them. -/
noncomputable def argsOf (c : Dev nD) : Args where
  s := m ((c : Thread nD τ).loc main_arg0)
  r := m ((c : Thread nD τ).loc main_arg1)
  Wctx := m ((c : Thread nD τ).loc main_arg2)
  Wslot := m ((c : Thread nD τ).loc main_arg3)
  W1 := m ((c : Thread nD τ).loc main_arg4)
  b1 := m ((c : Thread nD τ).loc main_arg5)
  W2 := m ((c : Thread nD τ).loc main_arg6)

/-- A block of `l` terms from `a` on, cut off after place `p`, on top of the first `a` terms: the first `a + p + 1`. -/
theorem sum_block (f : ℕ → EReal) (a l p : ℕ) (hp : p < l) :
    (∑ x : Fin l, (if x.val ≤ p then (1 : EReal) else 0) * f (a + x.val)) + ∑ u ∈ Finset.range a, f u
      = ∑ u ∈ Finset.range (a + p + 1), f u := by
  rw [add_comm, show a + p + 1 = a + (p + 1) from rfl, Finset.sum_range_add,
    Fin.sum_univ_eq_sum_range (fun x => (if x ≤ p then (1 : EReal) else 0) * f (a + x)) l]
  congr 1
  rw [← Finset.sum_subset (Finset.range_mono (Nat.succ_le_of_lt hp))]
  · refine Finset.sum_congr rfl fun x hx => ?_
    rw [if_pos (Nat.lt_succ_iff.mp (Finset.mem_range.mp hx)), one_mul]
  · intro x _ hx
    rw [if_neg (fun h => hx (Finset.mem_range.mpr (Nat.lt_succ_of_le h))), zero_mul]

/-- The running sum of a tile: from a carry that holds the sum of everything before the tile, row `p` holds the sum up to
    and including its own time step. -/
theorem pay3_eq (c : Dev nD) (t : Fin cfg0.N) (a : Vec Ideal S1x1024 .f32) (k : Fin 1024)
    (ha : a (ix2 0 k) = (argsOf m c).csum (bat t) k (t.val % 16 * 128)) (p : Fin 128) :
    k0_pay3 (iblk m c 0 t) a (ix2 p k) = (argsOf m c).csum (bat t) k ((tm t p).val + 1) := by
  have hp := p.isLt
  pointwise [k0_pay3]
  rw [ha]
  refine Eq.trans ?_ (sum_block ((argsOf m c).sAt (bat t) k) (t.val % 16 * 128) 128 p.val hp)
  refine congrArg₂ (· + ·) (Finset.sum_congr rfl fun x _ => ?_) rfl
  have hx := x.isLt
  rw [read_s, WordCmp.cmpi_sge_ofNat (by omega) (by omega), sitofp_bit]
  congr 1
  unfold Args.sAt
  rw [dif_pos (show t.val % 16 * 128 + x.val < 2048 by omega)]
  rfl

/-- The carried row after a tile, from the sum of everything before it: the sum of everything up to its end. -/
theorem pay4_eq (c : Dev nD) (t : Fin cfg0.N) (a : Vec Ideal S1x1024 .f32) (k : Fin 1024)
    (ha : a (ix2 0 k) = (argsOf m c).csum (bat t) k (t.val % 16 * 128)) :
    k0_pay4 (iblk m c 0 t) a (ix2 0 k) = (argsOf m c).csum (bat t) k (t.val % 16 * 128 + 128) := by
  pointwise [k0_pay4]
  exact pay3_eq m c t a k ha ⟨127, by omega⟩

/-- The second coordinate of a point is its tile's number. -/
theorem coord1 (t : Fin cfg0.N) : (grid0.coords t 1).val = t.val % 16 :=
  (Pipeline.Grid.coords_val (S := 1) (B := 16) t 1 (by decide) rfl).trans (by rw [Nat.div_one])

/-- The divisor of a row is the number of states up to and including its time step. -/
theorem denom_eq (q p : ℕ) (h : q < 16) (hp : p < 128) :
    FloatOps.sitofp (F := Ideal) .f32 (IntOp.addi (IntOp.addi (Scalar.muli (BitVec.ofNat 32 q) 128#32) (BitVec.ofNat 32 p)) 1#32)
      = (((q * 128 + p + 1 : ℕ) : ℝ) : EReal) := by
  have e : IntOp.addi (IntOp.addi (Scalar.muli (BitVec.ofNat 32 q) 128#32) (BitVec.ofNat 32 p)) 1#32
      = BitVec.ofNat 32 (q * 128 + p + 1) := by
    simp only [IntOp.addi, Scalar.muli, IntOp.muli, BitVec.ofNat_add, BitVec.ofNat_mul]
  rw [e]
  show (((BitVec.ofNat 32 (q * 128 + p + 1)).toInt : ℝ) : EReal) = _
  rw [WordCmp.toInt_ofNat_of_lt (by omega)]
  simp

/-- The scores of a tile, from a carry that holds the sum of everything before it. -/
theorem scores_eq (c : Dev nD) (t : Fin cfg0.N) (a : Vec Ideal S1x1024 .f32)
    (ha : ∀ k, a (ix2 0 k) = (argsOf m c).csum (bat t) k (t.val % 16 * 128)) (p : Fin 128) (n : Fin 64) :
    scores (grid0.coords t) (iblk m c 0 t) (iblk m c 1 t) (iblk m c 2 t) (iblk m c 3 t) (iblk m c 4 t) (iblk m c 5 t) (iblk m c 6 t) a
      (ix2 p n) = (argsOf m c).score (bat t) (tm t p) n := by
  have hctx : ∀ d, k0_pay6 (grid0.coords t) (iblk m c 0 t) a (iblk m c 2 t) (ix3 p 0 d) = (argsOf m c).ctx (bat t) (tm t p) d := by
    intro d
    pointwise [k0_pay6]
    refine Finset.sum_congr rfl fun k _ => ?_
    rw [pay3_eq m c t a k (ha k), read_Wctx]
    refine congrArg₂ (· * ·) (congrArg (Ideal.div _) ?_) rfl
    rw [coord1]
    exact denom_eq _ _ (by omega) p.isLt
  have hslot : ∀ n d, k0_pay5 (iblk m c 1 t) (iblk m c 3 t) (ix3 p n d) = (argsOf m c).slot (bat t) (tm t p) n d := by
    intro n d
    pointwise [k0_pay5]
    refine Finset.sum_congr rfl fun e _ => ?_
    rw [read_r, read_Wslot]
    rfl
  unfold scores
  pointwise [k0_pay7]
  have hone : ∀ x : Fin 64, FloatOps.sitofp (F := Ideal) .f32 (BitVec.setWidth 32 (IntOp.cmpi .eq (BitVec.ofNat 32 x.val) (BitVec.ofNat 32 n.val)))
      = if x = n then (1 : EReal) else 0 := by
    intro x
    have hx := x.isLt
    have hn := n.isLt
    rw [WordCmp.cmpi_eq_ofNat (by omega) (by omega), sitofp_bit]
    simp only [Fin.ext_iff]
  simp only [hone, mul_ite, mul_one, mul_zero, Finset.sum_ite_eq', Finset.mem_univ, if_true, hslot, hctx, read_W1, read_b1, read_W2]
  rfl

/-- At the first tile of a batch, the zero row is the sum of nothing. -/
theorem first_eq (c : Dev nD) (t : Fin cfg0.N) (h0 : t.val % 16 = 0) (k : Fin 1024) :
    k0_pay2 (F := Ideal) (ix2 0 k) = (argsOf m c).csum (bat t) k (t.val % 16 * 128) := by
  rw [h0]
  pointwise [k0_pay2]
  exact Finset.sum_range_zero _ |>.symm

/-- The step from one tile of a batch to the next: the end of the one is the start of the other. -/
theorem next_eq (c : Dev nD) (k : Fin 1024) (x : EReal) (n : ℕ) (hn : n + 1 < cfg0.N) (h0 : ¬(n + 1) % 16 = 0)
    (hx : x = (argsOf m c).csum (bat ⟨n, Nat.lt_of_succ_lt hn⟩) k (n % 16 * 128 + 128)) :
    x = (argsOf m c).csum (bat ⟨n + 1, hn⟩) k ((n + 1) % 16 * 128) := by
  rw [hx, show n % 16 * 128 + 128 = (n + 1) % 16 * 128 by omega]
  congr 1
  exact Fin.ext (show n / 16 = (n + 1) / 16 by omega)

/-- After a point, the carried row is the sum of every state of its batch up to the end of its tile. -/
theorem carry_eq (c : Dev nD) (k : Fin 1024) (n : ℕ) (hn : n < cfg0.N) :
    (outsAt0 m c n hn).2 (ix2 0 k) = (argsOf m c).csum (bat ⟨n, hn⟩) k (n % 16 * 128 + 128) := by
  induction n with
  | zero =>
    rw [outsAt0_A m c ⟨0, hn⟩ rfl]
    dsimp only
    rw [sout_A]
    exact pay4_eq m c ⟨0, hn⟩ _ k (first_eq m c _ rfl k)
  | succ n ih =>
    by_cases h0 : (n + 1) % 16 = 0
    · rw [outsAt0_A m c ⟨n + 1, hn⟩ h0]
      dsimp only
      rw [sout_A]
      exact pay4_eq m c ⟨n + 1, hn⟩ _ k (first_eq m c _ h0 k)
    · rw [outsAt0_B m c ⟨n + 1, hn⟩ h0]
      dsimp only
      rw [sout_B]
      exact pay4_eq m c ⟨n + 1, hn⟩ _ k (next_eq m c k _ n hn h0 (ih (Nat.lt_of_succ_lt hn)))

/-- The mask of a tile's scores, from a carry that holds the sum of everything before it, marks the best slots. -/
theorem mask_eq (c : Dev nD) (t : Fin cfg0.N) (a : Vec Ideal S1x1024 .f32)
    (ha : ∀ k, a (ix2 0 k) = (argsOf m c).csum (bat t) k (t.val % 16 * 128)) (p : Fin 128) (n : Fin 64) :
    mask (scores (grid0.coords t) (iblk m c 0 t) (iblk m c 1 t) (iblk m c 2 t) (iblk m c 3 t) (iblk m c 4 t) (iblk m c 5 t)
      (iblk m c 6 t) a) (ix3 0 p n) = (argsOf m c).best (bat t) (tm t p) n := by
  rw [mask_apply]
  simp only [scores_eq m c t a ha]
  rfl

/-- What a point writes: the mask of the best slots of its time steps. -/
theorem out_eq (c : Dev nD) (n : ℕ) (hn : n < cfg0.N) (p : Fin 128) (j : Fin 64) :
    (outsAt0 m c n hn).1 (ix3 0 p j) = (argsOf m c).best (bat ⟨n, hn⟩) (tm ⟨n, hn⟩ p) j := by
  by_cases h0 : n % 16 = 0
  · rw [outsAt0_A m c ⟨n, hn⟩ h0]
    dsimp only
    rw [out_A]
    exact mask_eq m c ⟨n, hn⟩ _ (first_eq m c _ h0) p j
  · obtain ⟨n, rfl⟩ := Nat.exists_eq_succ_of_ne_zero (show n ≠ 0 from fun h => h0 (by rw [h]))
    rw [outsAt0_B m c ⟨n + 1, hn⟩ h0]
    dsimp only
    rw [out_B]
    exact mask_eq m c ⟨n + 1, hn⟩ _ (fun k => next_eq m c k _ n hn h0 (carry_eq m c k n (Nat.lt_of_succ_lt hn))) p j

end Cert.Mask

end
-- ==== Proof.Array.lean ====
/- What the array of the mask holds after the last grid point, and what the host line after the region makes of it. -/
module

public import proofs.«01_k».proof.Proof.Points
public import Idealize.ShloMosaic.Lib.Pipeline.Value

@[expose] public section

set_option maxRecDepth 16384

namespace Cert.Mask

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The mask of the best slots as one array. -/
noncomputable def bestArray (c : Dev nD) : Arr 3 ![2, 2048, 64] := fun i => (argsOf m c).best (i 0) (i 1) (i 2)

/-- Point `t` writes the block of batch `t / 16` and tile `t % 16`, and each point writes. -/
theorem idx_out : ∀ t : Fin cfg0.N, win0_7.index t = ![t.val / 16, t.val % 16, 0] ∧ (cfg0.win 7).flush t = true :=
  (by decide +kernel : ∀ t : Fin grid0.N, win0_7.index t = ![t.val / 16, t.val % 16, 0] ∧ win0_7.flush t = true)

/-- Where an entry of a point's block lies in the array. -/
theorem block_place (t : Fin cfg0.N) (p : Fin 128) (j : Fin 64) :
    ((cfg0.win 7).blk t).view.emb (ix3 0 p j) = ix3 (bat t) (tm t p) j := by
  have e := (idx_out t).1
  have e0 : win0_7.index t (0 : Fin 3) = t.val / 16 := congrFun e 0
  have e1 : win0_7.index t (1 : Fin 3) = t.val % 16 := congrFun e 1
  have e2 : win0_7.index t (2 : Fin 3) = 0 := congrFun e 2
  funext a
  apply Fin.ext
  fin_cases a
  · show win0_7.index t (0 : Fin 3) * 1 + 1 * 0 = t.val / 16
    omega
  · show win0_7.index t (1 : Fin 3) * 128 + 1 * p.val = t.val % 16 * 128 + p.val
    omega
  · show win0_7.index t (2 : Fin 3) * 64 + 1 * j.val = j.val
    omega

/-- A point writes its block of the mask. -/
theorem flushed_best (c : Dev nD) (t : Fin cfg0.N) :
    (dats m 0 c).flushed 7 t = ((cfg0.win 7).blk t).view.read (Elt Ideal) (bestArray m c) := by
  show (cfg0.win 7).cut (grid0.coords t) ((dats m 0 c).after 7 t) = _
  rw [after0_7]
  funext y
  obtain ⟨p, j, rfl⟩ : ∃ (p : Fin 128) (j : Fin 64), y = ix3 0 p j :=
    ⟨y 1, y 2, by
      funext a
      fin_cases a
      · exact Fin.ext (Nat.lt_one_iff.mp (y 0).isLt)
      · rfl
      · rfl⟩
  show (outsAt0 m c t.val t.isLt).1 (ix3 0 p j) = bestArray m c (((cfg0.win 7).blk t).view.emb (ix3 0 p j))
  rw [block_place, out_eq]
  rfl

/-- Every entry of the array lies in the block of some point. -/
theorem covered (i : S2x2048x64.Idx) : ∃ t : Fin cfg0.N, (cfg0.win 7).flush t = true ∧ i ∈ ((cfg0.win 7).blk t).view.set := by
  obtain ⟨b, t, j, rfl⟩ : ∃ (b : Fin 2) (t : Fin 2048) (j : Fin 64), i = ix3 b t j :=
    ⟨i 0, i 1, i 2, by funext a; fin_cases a <;> rfl⟩
  have hb := b.isLt
  have ht := t.isLt
  let q : Fin cfg0.N := ⟨b.val * 16 + t.val / 128,
    lt_of_lt_of_eq (by omega : b.val * 16 + t.val / 128 < 32) (show 32 = cfg0.N from N_0.symm)⟩
  have hq : ix3 b t j = ((cfg0.win 7).blk q).view.emb (ix3 0 ⟨t.val % 128, by omega⟩ j) := by
    rw [block_place]
    have e1 : bat q = b := Fin.ext (show (b.val * 16 + t.val / 128) / 16 = b.val by omega)
    have e2 : tm q ⟨t.val % 128, by omega⟩ = t :=
      Fin.ext (show (b.val * 16 + t.val / 128) % 16 * 128 + t.val % 128 = t.val by omega)
    rw [e1, e2]
  refine ⟨q, (idx_out q).2, ?_⟩
  rw [hq]
  exact ((cfg0.win 7).blk q).view.emb_mem_set _

/-- The region leaves the mask of the best slots in its array. -/
theorem array_eq (c : Dev nD) : (dats m 0 c).arrAt 7 cfg0.N = bestArray m c :=
  (dats m 0 c).arrAt_eq_of_cover 7 _ (fun t _ => flushed_best m c t) covered

/-- A new last axis of length one leaves an array's entries where they are. -/
theorem last_axis (x : Arr 3 ![2, 2048, 64]) :
    broadcastInDim S2x2048x64x1 ![0, 1, 2] bcast_S2x2048x64_S2x2048x64x1_0_1_2 x = fun i => x (ix3 (i 0) (i 1) (i 2)) := by
  funext i
  refine congrArg x (funext fun a => ?_)
  fin_cases a <;> rfl

/-- The host line after the region: the mask with one more axis of length one. -/
theorem tail_eq (c : Dev nD) :
    Pipeline.afterTail₀ cfgs (dats m) 0 (V0 m) [hostOps1] c main_v3
      = fun i => (argsOf m c).best (i 0) (i 1) (i 2) := by
  unfold Pipeline.afterTail₀
  have hv : ∀ W : Valuation τ sig (Elt Ideal), StableHlo.after [hostOps1].flatten W (Proc.devRef .tc main_v3)
      = broadcastInDim S2x2048x64x1 ![0, 1, 2] bcast_S2x2048x64_S2x2048x64x1_0_1_2 (W (Proc.devRef .tc main_v2)) := by
    intro W
    simp only [List.flatten_cons, List.flatten_nil, List.append_nil]
    after_results <;> rfl
  have hw : Pipeline.withArrays spec0 c (V0 m c) (fun w => (dats m 0 c).arrAt w cfg0.N) (Proc.devRef .tc (Pipeline.arrRef spec0 7))
      = bestArray m c :=
    (Pipeline.withArrays_arr spec0 (by decide) c (V0 m c) _ 7).trans (array_eq m c)
  rw [hv]
  refine Eq.trans (congrArg (broadcastInDim S2x2048x64x1 ![0, 1, 2] bcast_S2x2048x64_S2x2048x64x1_0_1_2) hw) ?_
  exact last_axis _

/-- The idealized kernel's run: its result and its arguments. -/
theorem kernel_run : θ_run defs (onTc (τ := τ) (main (F := Ideal))) ⟨m, fun _ => 0, ρ⟩ fun r => ∀ c : Dev nD,
      r.2.mem ((c : Thread nD τ).loc main_v3) = (fun i => (argsOf m c).best (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  have hres : θ_run defs (onTc (τ := τ) (main (F := Ideal))) ⟨m, fun _ => 0, ρ⟩ fun r => ∀ c : Dev nD,
      r.2.mem ((c : Thread nD τ).loc main_v3) = (fun i => (argsOf m c).best (i 0) (i 1) (i 2)) :=
    (θ_run defs _ _).mono (fun r h c =>
      ((h c).2 main_v3 (Pipeline.mem_restRefs_of main_v3 (by decide) (by decide))).trans (tail_eq m c)) (run_main m ρ)
  exact (θ_run defs _ _).mono (fun r h c => ⟨h.1 c, h.2 c⟩) (θ_run_and hres (unchanged m ρ))

end Cert.Mask

end
-- ==== Proof.RefSum.lean ====
/- The reference's running sum: the window sum over a window of the whole time axis, padded low by one less, is the sum up to
   and including every time step. -/
module

public import proofs.«01_k».proof.Proof.Spec
public import proofs.«01_k».proof.Proof.Gen.ReferenceIdeal.Read

@[expose] public section

set_option maxRecDepth 16384

namespace Cert.Mask

open Cert.ReferenceIdeal Cert.ReferenceIdeal.Gen Cert.ReferenceIdeal.Read Idealize.ShloMosaic

/-- A fold that adds a term per place is the sum of the terms. -/
theorem foldl_add_eq_sum {N : ℕ} (g : Fin N → EReal) : (List.finRange N).foldl (fun r n => r + g n) 0 = ∑ n, g n := by
  rw [Fin.sum_univ_def, List.sum_eq_foldl, List.foldl_map]

/-- The window of the whole axis padded low by one less: at `t` its first `l - t` places are padding, the others read the
    entries up to `t`. -/
theorem sum_padded (f : ℕ → EReal) (l t : ℕ) (ht : t ≤ l) :
    (∑ w ∈ Finset.range (l + 1), if l ≤ t + w then f (t + w - l) else 0) = ∑ u ∈ Finset.range (t + 1), f u := by
  obtain ⟨d, rfl⟩ : ∃ d, l = t + d := ⟨l - t, by omega⟩
  rw [show t + d + 1 = d + (t + 1) by omega, Finset.sum_range_add, Finset.sum_eq_zero, zero_add]
  · refine Finset.sum_congr rfl fun u _ => ?_
    rw [if_pos (by omega), show t + (d + u) - (t + d) = u by omega]
  · intro w hw
    have := Finset.mem_range.mp hw
    exact if_neg (by omega)

/-- The window's places in row-major order are its places along the time axis. -/
theorem window_place (n : Fin (⟨3, ![1, 2048, 1]⟩ : Shape).numel) (h : n.val < 2048) :
    (⟨3, ![1, 2048, 1]⟩ : Shape).rowMajor.symm n = ix3 (0 : Fin 1) (⟨n.val, h⟩ : Fin 2048) (0 : Fin 1) :=
  ((⟨3, ![1, 2048, 1]⟩ : Shape).rowMajor.symm_apply_eq).2 (Fin.ext (by
    rw [Shape.rowMajor_val_three]
    show n.val = (0 * 2048 + n.val) * 1 + 0
    omega))

/-- The window of the cumulative sum holds 2048 places. -/
theorem window_numel : (⟨3, ![1, 2048, 1]⟩ : Shape).numel = 2048 := by decide +kernel

/-- The reference's running sum at a time step. -/
theorem cumsum_eq (A : Args) (b : Fin 2) (t : Fin 2048) (k : Fin 1024) :
    val_main_v4 (F := Ideal) A.s (ix3 b t k) = A.csum b k (t.val + 1) := by
  have ht := t.isLt
  have h0 : val_main_call0_call0_v0 (F := Ideal) = fun _ => (0 : EReal) := by
    funext i
    rw [val_main_call0_call0_v0_apply, val_main_call0_call0_cst_apply]
    exact Ideal.ofBits_zero_f32
  unfold val_main_v4 Host.reduceWindowAdd
  rw [h0, Ideal.hostReduceWindowAdd_def]
  unfold Ideal.hostReduceWindowAdd Host.reduceWindow
  dsimp only
  refine (foldl_add_eq_sum _).trans ?_
  unfold Args.csum
  rw [← sum_padded (A.sAt b k) 2047 t.val (by omega), ← Fin.sum_univ_eq_sum_range
    (fun w => if 2047 ≤ t.val + w then A.sAt b k (t.val + w - 2047) else 0) 2048]
  refine Fintype.sum_equiv (finCongr window_numel) _ _ fun n => ?_
  have hn : n.val < 2048 := lt_of_lt_of_eq n.isLt window_numel
  have hw := window_place n hn
  have hw0 : ((⟨3, ![1, 2048, 1]⟩ : Shape).rowMajor.symm n 0).val = 0 := by rw [hw]; rfl
  have hw1 : ((⟨3, ![1, 2048, 1]⟩ : Shape).rowMajor.symm n 1).val = n.val := by rw [hw]; rfl
  have hw2 : ((⟨3, ![1, 2048, 1]⟩ : Shape).rowMajor.symm n 2).val = 0 := by rw [hw]; rfl
  refine Eq.trans ?_ (show (if 2047 ≤ t.val + n.val then A.sAt b k (t.val + n.val - 2047) else 0) = _ from rfl)
  split
  · next hin =>
    have h1 := (hin 1).1
    change 2047 ≤ t.val * 1 + ((⟨3, ![1, 2048, 1]⟩ : Shape).rowMajor.symm n 1).val at h1
    rw [hw1] at h1
    rw [if_pos (by omega)]
    unfold Args.sAt
    rw [dif_pos (show t.val + n.val - 2047 < 2048 by omega)]
    refine congrArg A.s (funext fun a => Fin.ext ?_)
    fin_cases a
    · show b.val * 1 + ((⟨3, ![1, 2048, 1]⟩ : Shape).rowMajor.symm n 0).val - 0 = b.val
      rw [hw0]; omega
    · show t.val * 1 + ((⟨3, ![1, 2048, 1]⟩ : Shape).rowMajor.symm n 1).val - 2047 = t.val + n.val - 2047
      rw [hw1]; omega
    · show k.val * 1 + ((⟨3, ![1, 2048, 1]⟩ : Shape).rowMajor.symm n 2).val - 0 = k.val
      rw [hw2]; omega
  · next hin =>
    refine (if_neg fun h => hin fun a => ?_).symm
    have hb := b.isLt
    have hk := k.isLt
    fin_cases a
    · show 0 ≤ b.val * 1 + ((⟨3, ![1, 2048, 1]⟩ : Shape).rowMajor.symm n 0).val
        ∧ b.val * 1 + ((⟨3, ![1, 2048, 1]⟩ : Shape).rowMajor.symm n 0).val - 0 < 2
      rw [hw0]; omega
    · show 2047 ≤ t.val * 1 + ((⟨3, ![1, 2048, 1]⟩ : Shape).rowMajor.symm n 1).val
        ∧ t.val * 1 + ((⟨3, ![1, 2048, 1]⟩ : Shape).rowMajor.symm n 1).val - 2047 < 2048
      rw [hw1]; omega
    · show 0 ≤ k.val * 1 + ((⟨3, ![1, 2048, 1]⟩ : Shape).rowMajor.symm n 2).val
        ∧ k.val * 1 + ((⟨3, ![1, 2048, 1]⟩ : Shape).rowMajor.symm n 2).val - 0 < 1024
      rw [hw2]; omega

end Cert.Mask

end
-- ==== Proof.RefScore.lean ====
/- The reference's scores are the scores of the problem, plus the last bias. -/
module

public import proofs.«01_k».proof.Proof.RefSum
public import Idealize.ShloMosaic.Lib.WordCmp

@[expose] public section

set_option maxRecDepth 16384

namespace Cert.Mask

open Cert.ReferenceIdeal Cert.ReferenceIdeal.Gen Cert.ReferenceIdeal.Read Idealize.ShloMosaic

variable (A : Args)

/-- The bit pattern of one is one. -/
theorem ofBits_one : (FloatOps.ofBits .f32 0x3F800000#32 : Ideal .f32) = (1 : EReal) := Ideal.ofBits_one_f32

/-- The reference counts the time steps in the floats, one and the index. -/
theorem count_eq (b : Fin 2) (t : Fin 2048) (k : Fin 1024) :
    val_main_v5 (F := Ideal) (ix3 b t k) = (((t.val + 1 : ℕ) : ℝ) : EReal) := by
  have ht := t.isLt
  rw [val_main_v5_apply, val_main_v3_apply, val_main_v2_apply, val_main_v1_apply, val_main_cst_apply, ofBits_one]
  have hi : idx_main_v3 (idx_main_v5 (ix3 b t k)) = ix1 t := by
    funext a
    fin_cases a
    exact Fin.ext (show (0 * 2048 + t.val) * 1 + 0 = t.val by omega)
  rw [hi]
  show (1 : EReal) + (((BitVec.ofNat 32 t.val).toInt : ℝ) : EReal) = _
  rw [WordCmp.toInt_ofNat_of_lt (by omega), ← EReal.coe_one, ← EReal.coe_add]
  push_cast
  rw [add_comm]

/-- The reference's quotient of running sum and count is the mean of the states so far. -/
theorem mean_eq (b : Fin 2) (t : Fin 2048) (k : Fin 1024) : val_main_v6 (F := Ideal) A.s (ix3 b t k) = A.mean b t k := by
  rw [val_main_v6_apply, cumsum_eq, count_eq]
  rfl

/-- The reference's first product is that mean projected by the context weights. -/
theorem ctx_eq (b : Fin 2) (t : Fin 2048) (d : Fin 256) : val_main_v7 (F := Ideal) A.s A.Wctx (ix3 b t d) = A.ctx b t d := by
  rw [val_main_v7_apply]
  refine Finset.sum_congr rfl fun k _ => ?_
  rw [show lidx_main_v7 (ix3 b t d) k = ix3 b t k from by funext a; fin_cases a <;> rfl,
    show ridx_main_v7 (ix3 b t d) k = ix2 k d from by funext a; fin_cases a <;> rfl, mean_eq]

/-- The reference's second product is the slots projected by the slot weights. -/
theorem slot_eq (b : Fin 2) (t : Fin 2048) (n : Fin 64) (d : Fin 256) :
    val_main_v9 (F := Ideal) A.r A.Wslot (ix4 b t n d) = A.slot b t n d := by
  rw [val_main_v9_apply]
  refine Finset.sum_congr rfl fun e _ => ?_
  rw [show lidx_main_v9 (ix4 b t n d) e = ix4 b t n e from by funext a; fin_cases a <;> rfl,
    show ridx_main_v9 (ix4 b t n d) e = ix2 e d from by funext a; fin_cases a <;> rfl]

/-- The reference's features are the hyperbolic tangent of projected slot plus projected context. -/
theorem tanh_eq (b : Fin 2) (t : Fin 2048) (n : Fin 64) (d : Fin 256) :
    val_main_v12 (F := Ideal) A.s A.r A.Wctx A.Wslot (ix4 b t n d) = Ideal.tanh (A.slot b t n d + A.ctx b t d) := by
  rw [val_main_v12_apply, val_main_v11_apply, slot_eq, val_main_v10_apply, val_main_v8_apply,
    show idx_main_v8 (idx_main_v10 (ix4 b t n d)) = ix3 b t d from by funext a; fin_cases a <;> rfl, ctx_eq]
  rfl

/-- The reference's hidden layer after its rectifier is the hidden layer of the mathematics. -/
theorem hid_eq (b : Fin 2) (t : Fin 2048) (n : Fin 64) (h : Fin 128) :
    val_main_v18 (F := Ideal) A.s A.r A.Wctx A.Wslot A.W1 A.b1 (ix4 b t n h) = A.hid b t n h := by
  rw [val_main_v18_apply, val_main_v16_apply, val_main_v13_apply, val_main_v15_apply, val_main_v14_apply, val_main_v17_apply,
    val_main_cst_0_apply]
  have hb : idx_main_v14 (idx_main_v15 (ix4 b t n h)) = ix1 h := by funext a; fin_cases a; rfl
  rw [hb]
  show max ((∑ _, _) + _) (Ideal.ofBits .f32 0x00000000#32) = _
  rw [Ideal.ofBits_zero_f32]
  refine congrArg (fun z => max (z + A.b1 (ix1 h)) 0) (Finset.sum_congr rfl fun d _ => ?_)
  rw [show lidx_main_v13 (ix4 b t n h) d = ix4 b t n d from by funext a; fin_cases a <;> rfl,
    show ridx_main_v13 (ix4 b t n h) d = ix2 d h from by funext a; fin_cases a <;> rfl, tanh_eq]

/-- The reference's scores. -/
theorem refScore_eq (b2 : Arr 1 ![1]) (b : Fin 2) (t : Fin 2048) (n : Fin 64) :
    val_main_v23 (F := Ideal) A.s A.r A.Wctx A.Wslot A.W1 A.b1 A.W2 b2 (ix3 b t n) = A.score b t n + b2 (ix1 0) := by
  have hb := b.isLt
  have ht := t.isLt
  have hn := n.isLt
  rw [val_main_v23_apply]
  have hi : idx_main_v23 (ix3 b t n) = ix4 b t n 0 := by
    funext a
    fin_cases a
    · exact Fin.ext (show ((b.val * 2048 + t.val) * 64 + n.val) / 131072 = b.val by omega)
    · exact Fin.ext (show ((b.val * 2048 + t.val) * 64 + n.val) / 64 % 2048 = t.val by omega)
    · exact Fin.ext (show ((b.val * 2048 + t.val) * 64 + n.val) / 1 % 64 = n.val by omega)
    · rfl
  rw [hi, val_main_v22_apply, val_main_v19_apply, val_main_v21_apply, val_main_v20_apply]
  show (∑ _, _) + _ = _
  have hj : idx_main_v20 (idx_main_v21 (ix4 b t n 0)) = ix1 0 := by funext a; fin_cases a; rfl
  rw [hj]
  refine congrArg (· + b2 (ix1 0)) (Finset.sum_congr rfl fun h _ => ?_)
  rw [show lidx_main_v19 (ix4 b t n 0) h = ix4 b t n h from by funext a; fin_cases a <;> rfl,
    show ridx_main_v19 (ix4 b t n 0) h = ix2 h 0 from by funext a; fin_cases a <;> rfl, hid_eq]

end Cert.Mask

end
-- ==== Proof.RefMask.lean ====
/- The reference's mask: the 32 first of the stable descending sort of a time step's scores, each marked once, are the slots
   of rank below 32; and the clipped soft mask, added and taken away again, leaves it as it is. -/
module

public import proofs.«01_k».proof.Proof.RefScore

@[expose] public section

set_option maxRecDepth 16384

namespace Cert.Mask

open Cert.ReferenceIdeal Cert.ReferenceIdeal.Gen Cert.ReferenceIdeal.Read Idealize.ShloMosaic

/-- The positions a top-k of the last axis returns are those of the stable descending sort of the row. -/
theorem topIndex_eq (x : Arr 3 ![2, 2048, 64]) (h : S2x2048x64.Slices (fun _ => 0) S2x2048x32) (b : Fin 2) (t : Fin 2048) (q : Fin 32) :
    (Host.topK (s := S2x2048x64) S2x2048x32 2 (FloatOps.cmpfTotal (F := Ideal) (φ := .f32) .gt) x h).2 (ix3 b t q)
      = BitVec.ofNat 32 (sortedFrom (fun k k' : Fin 64 => decide (x (ix3 b t k') < x (ix3 b t k))) (q.castLE (by decide))).val := by
  unfold Host.topK Host.sort2
  dsimp only
  rw [dif_pos (show 2 < S2x2048x64.rank by decide)]
  pointwise
  have hal : ∀ k : Fin 64, (ix3 b t (⟨q.val, by omega⟩ : Fin 64)).along (s := S2x2048x64) 2 k = ix3 b t k := by
    intro k
    funext a
    fin_cases a <;> rfl
  have hgt : ∀ u v : EReal, (FloatOps.cmpfTotal (F := Ideal) (φ := .f32) .gt u v == 1#1) = decide (v < u) := by
    intro u v
    show (BitVec.ofBool (decide (v < u)) == 1#1) = _
    cases decide (v < u) <;> rfl
  simp only [hal, hgt]
  rfl

variable (A : Args) (b2 : Arr 1 ![1])

/-- The reference's scores of a time step. -/
noncomputable def refRow (b : Fin 2) (t : Fin 2048) (j : Fin 64) : EReal :=
  val_main_v23 (F := Ideal) A.s A.r A.Wctx A.Wslot A.W1 A.b1 A.W2 b2 (ix3 b t j)

/-- One bit of the one-hot rows: place `q` of the sort holds slot `n`. -/
theorem oneHot_eq (b : Fin 2) (t : Fin 2048) (q : Fin 32) (n : Fin 64) :
    val_main_v24 (F := Ideal) A.s A.r A.Wctx A.Wslot A.W1 A.b1 A.W2 b2 (ix4 b t q n)
      = if sortedFrom (fun k k' : Fin 64 => decide (refRow A b2 b t k' < refRow A b2 b t k)) (q.castLE (by decide)) = n
          then (1 : EReal) else 0 := by
  have hn := n.isLt
  rw [val_main_v24_apply, val_main_call1_v4_apply, val_main_call1_v2_apply, val_main_call1_v0_apply, val_main_call1_v3_apply,
    val_main_call1_v1_apply]
  have hi : idx_main_call1_v0 (idx_main_call1_v2 (ix4 b t q n)) = ix3 b t q := by funext a; fin_cases a <;> rfl
  rw [hi]
  unfold val_main_indices
  rw [topIndex_eq]
  change FloatOps.uitofp (F := Ideal) .f32 (IntOp.cmpi .eq (BitVec.ofNat 32
    (sortedFrom (fun k k' : Fin 64 => decide (refRow A b2 b t k' < refRow A b2 b t k)) (q.castLE (by decide))).val) (BitVec.ofNat 32 n.val)) = _
  generalize sortedFrom _ _ = p
  have hlt := p.isLt
  show FloatOps.uitofp (F := Ideal) .f32 (IntOp.cmpi .eq (BitVec.ofNat 32 p.val) (BitVec.ofNat 32 n.val)) = _
  rw [WordCmp.cmpi_eq_ofNat (by omega) (by omega)]
  by_cases h : p = n
  · rw [if_pos h, decide_eq_true (congrArg Fin.val h)]
    show (((BitVec.ofBool true).toNat : ℝ) : EReal) = 1
    simp
  · rw [if_neg h, decide_eq_false (fun e => h (Fin.ext e))]
    show (((BitVec.ofBool false).toNat : ℝ) : EReal) = 0
    simp

/-- The sum of the one-hot rows is one where the rank is below 32 and zero elsewhere. -/
theorem hard_eq (b : Fin 2) (t : Fin 2048) (n : Fin 64) :
    val_main_v25 (F := Ideal) A.s A.r A.Wctx A.Wslot A.W1 A.b1 A.W2 b2 (ix3 b t n)
      = if rank (refRow A b2 b t) n < 32 then (1 : EReal) else 0 := by
  rw [val_main_v25_apply, val_main_cst_1_apply]
  show Ideal.ofBits .f32 0x00000000#32 + _ = _
  rw [Ideal.ofBits_zero_f32, zero_add, ← sum_first_eq 1 (refRow A b2 b t) 32 (by decide) n]
  refine Finset.sum_congr rfl fun q _ => ?_
  rw [show idx_main_v25 (ix3 b t n) q = ix4 b t q n from by funext a; fin_cases a <;> rfl, oneHot_eq]

/-- What is added and taken away again, when it lies between zero and one, does not change a real number. -/
theorem add_sub_clipped (x u : EReal) (hx0 : 0 ≤ x) (hx1 : x ≤ 1) : x + min 1 (max 0 u) - min 1 (max 0 u) = x := by
  have hreal : ∀ v : EReal, 0 ≤ v → v ≤ 1 → ∃ r : ℝ, v = (r : EReal) := fun v h0 h1 =>
    ⟨v.toReal, (EReal.coe_toReal (fun e => by rw [e] at h1; exact absurd h1 (by decide)) (fun e => by rw [e] at h0; exact absurd h0 (by decide))).symm⟩
  obtain ⟨r, hr⟩ := hreal _ (le_min zero_le_one (le_max_left 0 u)) (min_le_left 1 (max 0 u))
  obtain ⟨y, rfl⟩ := hreal x hx0 hx1
  rw [hr, ← EReal.coe_add, ← EReal.coe_sub, add_sub_cancel_right]

/-- The reference's result: one where the rank of its score is below 32, zero elsewhere. -/
theorem refMask_eq (b : Fin 2) (t : Fin 2048) (n : Fin 64) :
    val_main_v43 (F := Ideal) A.s A.r A.Wctx A.Wslot A.W1 A.b1 A.W2 b2 (ix3 b t n)
      = if rank (refRow A b2 b t) n < 32 then (1 : EReal) else 0 := by
  rw [val_main_v43_apply, val_main_v42_apply, hard_eq, val_main_v41_apply, val_main_call2_v2_apply]
  have h1 : val_main_call2_v4 (F := Ideal) (ix3 b t n) = (1 : EReal) := by
    rw [val_main_call2_v4_apply]
    exact Ideal.ofBits_one_f32
  have h0 : val_main_call2_v1 (F := Ideal) (ix3 b t n) = (0 : EReal) := by
    rw [val_main_call2_v1_apply]
    exact Ideal.ofBits_zero_f32
  rw [h1, h0]
  refine add_sub_clipped _ _ ?_ ?_ <;> split <;> simp

/-- A number added on the right keeps the order of the extended reals when it is neither of the two infinities. -/
theorem add_real_strictMono (y : ℝ) : StrictMono fun x : EReal => x + (y : EReal) :=
  fun _ _ h => EReal.add_lt_add_right_coe h y

/-- With a last bias that is a real number, the reference's result marks the best slots. -/
theorem reference_eq (y : ℝ) (hy : b2 (ix1 0) = (y : EReal)) (b : Fin 2) (t : Fin 2048) (n : Fin 64) :
    val_main_v43 (F := Ideal) A.s A.r A.Wctx A.Wslot A.W1 A.b1 A.W2 b2 (ix3 b t n) = A.best b t n := by
  rw [refMask_eq]
  have hrow : refRow A b2 b t = fun j => A.score b t j + (y : EReal) := by
    funext j
    rw [← hy]
    exact refScore_eq A b2 b t j
  rw [hrow, rank_strictMono _ (add_real_strictMono y)]
  rfl

end Cert.Mask

end
-- ==== Proof.Bias.lean ====
/- What the precondition says of the last bias: it is a real number. -/
module

public import proofs.«01_k».proof.Pre_b2_finite
public import proofs.«01_k».proof.Proof.Spec
public import Idealize.ShloMosaic.PureOps.Ideal.Laws

@[expose] public section

set_option maxRecDepth 16384

namespace Cert.Mask

open Idealize.ShloMosaic

/-- The predicate's one shape fact. -/
theorem biasFacts : Cert.Pre_b2_finite.Facts where
  bcast_S_S1 := by decide

/-- The bit pattern of the largest exponent with no fraction is the upper infinity. -/
theorem ofBits_inf : Ideal.ofBits .f32 0x7F800000#32 = (⊤ : EReal) := by
  simp [Ideal.ofBits, Ideal.ieee]

/-- Where the predicate reads true the bias is a real number. -/
theorem bias_real (x0 : Arr 3 ![2, 2048, 1024]) (x1 : Arr 4 ![2, 2048, 64, 256]) (x2 : Arr 2 ![1024, 256]) (x3 : Arr 2 ![256, 256])
    (x4 : Arr 2 ![256, 128]) (x5 : Arr 1 ![128]) (x6 : Arr 2 ![128, 1]) (b2 : Arr 1 ![1])
    (h : (haveI := biasFacts; Cert.Pre_b2_finite.fn (F := Ideal) x0 x1 x2 x3 x4 x5 x6 b2) (ix1 0) = 1#1) :
    ∃ y : ℝ, b2 (ix1 0) = (y : EReal) := by
  have h' : BitVec.ofBool (decide (FloatOps.absf (F := Ideal) (φ := .f32) (b2 (ix1 0)) < Ideal.ofBits .f32 0x7F800000#32)) = 1#1 := h
  rw [ofBits_inf] at h'
  have hlt : max (b2 (ix1 0)) (-(b2 (ix1 0))) < ⊤ := by
    by_contra hn
    rw [show FloatOps.absf (F := Ideal) (φ := .f32) (b2 (ix1 0)) = max (b2 (ix1 0)) (-(b2 (ix1 0))) from rfl, decide_eq_false hn] at h'
    exact absurd h' (by decide)
  refine ⟨(b2 (ix1 0)).toReal, (EReal.coe_toReal (fun e => ?_) (fun e => ?_)).symm⟩ <;> rw [e] at hlt <;> simp at hlt

end Cert.Mask

end
-- ==== Proof.Final.lean ====
/- The equation of the two programs' results, and the runs that end with them. -/
module

public import proofs.«01_k».proof.Proof.Array
public import proofs.«01_k».proof.Proof.RefMask
public import proofs.«01_k».proof.Proof.Bias
public import proofs.«01_k».proof.Defs
public import proofs.«01_k».proof.Proof.Gen.KernelIdeal.Frame
public import proofs.«01_k».proof.Proof.Gen.ReferenceIdeal.Run
public import Idealize.ShloMosaic.Adequacy
public import Idealize.ShloMosaic.Init

@[expose] public section

set_option maxRecDepth 16384

namespace Cert.Mask

open Idealize.ShloMosaic Idealize.ShloMosaic.TcCoe Idealize.SL.Sem

/-- The reference's result array, from argument arrays whose last bias is a real number, is the kernel's, from a memory that
    holds the same arrays. -/
theorem results_eq (m : (ℓ : Loc Cert.KernelIdeal.nD Cert.KernelIdeal.τ Cert.KernelIdeal.sig) → Buf (Elt Ideal) ℓ) (c : Dev Cert.KernelIdeal.nD)
    (b2 : Arr 1 ![1]) (y : ℝ) (hy : b2 (ix1 0) = (y : EReal)) :
    Cert.ReferenceIdeal.Read.val_main_v44 (F := Ideal) (argsOf m c).s (argsOf m c).r (argsOf m c).Wctx (argsOf m c).Wslot
        (argsOf m c).W1 (argsOf m c).b1 (argsOf m c).W2 b2
      = fun i => (argsOf m c).best (i 0) (i 1) (i 2) := by
  funext i
  rw [Cert.ReferenceIdeal.Read.val_main_v44_apply]
  have hi : Cert.ReferenceIdeal.Read.idx_main_v44 i = ix3 (i 0) (i 1) (i 2) := by funext a; fin_cases a <;> rfl
  rw [hi]
  exact reference_eq (argsOf m c) b2 y hy (i 0) (i 1) (i 2)

/-- The two idealized programs, from the same arguments with a real last bias, end with the same result and their arguments
    unchanged. -/
theorem algebraic : Cert.algebraic_KernelIdeal_ReferenceIdeal_pre_b2_finite (hPre_b2_finite := biasFacts) := by
  intro m g m' g' hpre hargs
  refine ⟨fun c i => (argsOf m c).best (i 0) (i 1) (i 2), kernel_run m g, ?_⟩
  refine (θ_run Cert.ReferenceIdeal.defs _ _).mono (fun r h c => ⟨(h c).1.trans ?_, (h c).2⟩) (Cert.ReferenceIdeal.Value.run m' g')
  obtain ⟨h0, h1, h2, h3, h4, h5, h6, h7⟩ := hargs c
  obtain ⟨y, hy⟩ := bias_real _ _ _ _ _ _ _ _ (congrFun (hpre c) (ix1 0))
  rw [Cert.ReferenceIdeal.Read.val_main_v44_eq, h0, h1, h2, h3, h4, h5, h6, h7]
  exact results_eq m c _ y hy

/-- The reference runs, leaves its arguments as they were, and has no counter to leave at anything but zero. -/
theorem referenceFrame : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

end Cert.Mask

end
-- ==== Proof.lean ====
/- The proof of the certificate's claim: the frames, the preservation and the equation of the results, assembled. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Final

@[expose] public section

noncomputable section

namespace Cert.Proof

open Idealize.ShloMosaic Idealize.SL.Sem Cert.Kernel

/-- The certificate: the frames as generated, nothing rewritten between the kernel and its idealization, and the equation of
    the results. -/
theorem claim : Cert.Claim :=
  ⟨Cert.Kernel.Gen.facts, Cert.KernelIdeal.Gen.facts, Cert.ReferenceIdeal.Gen.facts, Cert.Mask.biasFacts,
    fun m ρ _ => Cert.Kernel.Gen.frame m ρ, fun m ρ _ => Cert.KernelIdeal.Gen.frame m ρ, fun m ρ _ => Cert.KernelIdeal.Gen.frame m ρ,
    Cert.Mask.referenceFrame, fun m ρ _ => Cert.Mask.referenceFrame m ρ trivial, trivial, Cert.Mask.algebraic⟩

end Cert.Proof

end
